-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_paged [hPre_paged : Cert.Pre_paged.Facts] (m : (ℓ : Loc Cert.KernelIdeal.nD Cert.KernelIdeal.τ Cert.KernelIdeal.sig) → Buf (Elt Ideal) ℓ) : Prop :=
  ∀ c : Dev Cert.KernelIdeal.nD,
    (Cert.Pre_paged.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_paged [hPre_paged : Cert.Pre_paged.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_paged.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_paged [hKernelIdeal : Cert.KernelIdeal.Facts] [hPre_paged : Cert.Pre_paged.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_paged m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_paged [hReferenceIdeal : Cert.ReferenceIdeal.Facts] [hPre_paged : Cert.Pre_paged.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_paged m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4)
      ∧ r.2.mem ((c.tc : Thread Cert.Reference.nD Cert.Reference.τ).loc Cert.Reference.main_arg5) = m ((c.tc : Thread Cert.Reference.nD Cert.Reference.τ).loc Cert.Reference.main_arg5))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "scale_log2e" .f32 0x3E0293EE#32 (((Real.sqrt 128)⁻¹ * (Real.log 2)⁻¹ : ℝ) : EReal)

def preserves_Reference_ReferenceIdeal : Prop :=
  True

def algebraic_KernelIdeal_ReferenceIdeal_pre_paged [hKernelIdeal : Cert.KernelIdeal.Facts] [hReferenceIdeal : Cert.ReferenceIdeal.Facts] [hPre_paged : Cert.Pre_paged.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_paged m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hReference : Cert.Reference.Facts) (hPre_paged : Cert.Pre_paged.Facts),
    quiescent_Kernel (hKernel := hKernel)
    ∧ quiescent_KernelIdeal (hKernelIdeal := hKernelIdeal)
    ∧ quiescent_KernelIdeal_pre_paged (hKernelIdeal := hKernelIdeal) (hPre_paged := hPre_paged)
    ∧ quiescent_ReferenceIdeal (hReferenceIdeal := hReferenceIdeal)
    ∧ quiescent_ReferenceIdeal_pre_paged (hReferenceIdeal := hReferenceIdeal) (hPre_paged := hPre_paged)
    ∧ quiescent_Reference (hReference := hReference)
    ∧ preserves_Kernel_KernelIdeal
    ∧ preserves_Reference_ReferenceIdeal
    ∧ algebraic_KernelIdeal_ReferenceIdeal_pre_paged (hKernelIdeal := hKernelIdeal) (hReferenceIdeal := hReferenceIdeal) (hPre_paged := hPre_paged)
-- ==== Pre_paged.lean ====
abbrev S2048x32x128 : Shape := ⟨3, ![2048, 32, 128]⟩
abbrev S1024x16x8x128 : Shape := ⟨4, ![1024, 16, 8, 128]⟩
abbrev S8x128 : Shape := ⟨2, ![8, 128]⟩
abbrev S8 : Shape := ⟨1, ![8]⟩
abbrev S9 : Shape := ⟨1, ![9]⟩
abbrev S_ : Shape := ⟨0, ![]⟩

class Facts : Prop where
  bcast_S_S2048x32x128 : S_.BroadcastsInDim S2048x32x128 (![] : Fin 0 → Fin S2048x32x128.rank)
  reducesTo_S2048x32x128_S_d0_1_2 : S2048x32x128.ReducesTo [0, 1, 2] S_
  h_S_ : 0 < S_.numel
  bcast_S_S1024x16x8x128 : S_.BroadcastsInDim S1024x16x8x128 (![] : Fin 0 → Fin S1024x16x8x128.rank)
  reducesTo_S1024x16x8x128_S_d0_1_2_3 : S1024x16x8x128.ReducesTo [0, 1, 2, 3] S_
  bcast_S_S8x128 : S_.BroadcastsInDim S8x128 (![] : Fin 0 → Fin S8x128.rank)
  reducesTo_S8x128_S_d0_1 : S8x128.ReducesTo [0, 1] S_

variable [Facts]

def fn {F : FTy → Type} [FloatOps F] (main_arg0 : FVec F S2048x32x128 .f32) (main_arg1 : FVec F S1024x16x8x128 .f32) (main_arg2 : FVec F S1024x16x8x128 .f32) (main_arg3 : IVec S8x128 32) (main_arg4 : IVec S8 32) (main_arg5 : IVec S9 32) : IVec S_ 1 :=
  let main_v0 : FVec F S2048x32x128 .f32 := Host.absf main_arg0
  let main_cst : FVec F S_ .f32 := constant S_ .f32 0x7F800000#32
  let main_v1 : FVec F S2048x32x128 .f32 := broadcastInDim S2048x32x128 ![] bcast_S_S2048x32x128 main_cst
  let main_v2 : IVec S2048x32x128 1 := cmpf .olt main_v0 main_v1
  let main_c : IVec S_ 1 := constantI S_ 1 1#1
  let main_v3 : IVec S_ 1 := (fun x v => Host.reduce IntOp.andi x v reducesTo_S2048x32x128_S_d0_1_2 h_S_) main_v2 main_c
  let main_v4 : FVec F S1024x16x8x128 .f32 := Host.absf main_arg1
  let main_cst_0 : FVec F S_ .f32 := constant S_ .f32 0x7F800000#32
  let main_v5 : FVec F S1024x16x8x128 .f32 := broadcastInDim S1024x16x8x128 ![] bcast_S_S1024x16x8x128 main_cst_0
  let main_v6 : IVec S1024x16x8x128 1 := cmpf .olt main_v4 main_v5
  let main_c_1 : IVec S_ 1 := constantI S_ 1 1#1
  let main_v7 : IVec S_ 1 := (fun x v => Host.reduce IntOp.andi x v reducesTo_S1024x16x8x128_S_d0_1_2_3 h_S_) main_v6 main_c_1
  let main_v8 : IVec S_ 1 := andi main_v3 main_v7
  let main_v9 : IVec S8x128 32 := iotaInDim S8x128 32 0
  let main_c_2 : IVec S_ 32 := constantI S_ 32 128#32
  let main_v10 : IVec S8x128 32 := broadcastInDim S8x128 ![] bcast_S_S8x128 main_c_2
  let main_v11 : IVec S8x128 32 := muli main_v9 main_v10
  let main_v12 : IVec S8x128 32 := iotaInDim S8x128 32 1
  let main_v13 : IVec S8x128 32 := addi main_v11 main_v12
  let main_v14 : IVec S8x128 1 := cmpi .eq main_arg3 main_v13
  let main_c_3 : IVec S_ 1 := constantI S_ 1 1#1
  let main_v15 : IVec S_ 1 := (fun x v => Host.reduce IntOp.andi x v reducesTo_S8x128_S_d0_1 h_S_) main_v14 main_c_3
  let main_v16 : IVec S_ 1 := andi main_v8 main_v15
  main_v16
-- ==== Kernel.lean ====
abbrev S2048x32x128 : Shape := ⟨3, ![2048, 32, 128]⟩
abbrev S1024x16x8x128 : Shape := ⟨4, ![1024, 16, 8, 128]⟩
abbrev S8x128 : Shape := ⟨2, ![8, 128]⟩
abbrev S8 : Shape := ⟨1, ![8]⟩
abbrev S9 : Shape := ⟨1, ![9]⟩
abbrev S8x256x4096 : Shape := ⟨3, ![8, 256, 4096]⟩
abbrev S8x2048x8x128 : Shape := ⟨4, ![8, 2048, 8, 128]⟩
abbrev S8x1280x8x128 : Shape := ⟨4, ![8, 1280, 8, 128]⟩
abbrev S8x1280x1024 : Shape := ⟨3, ![8, 1280, 1024]⟩
abbrev S8x256x32x128 : Shape := ⟨4, ![8, 256, 32, 128]⟩
abbrev S1x256x4096 : Shape := ⟨3, ![1, 256, 4096]⟩
abbrev S1x640x1024 : Shape := ⟨3, ![1, 640, 1024]⟩
abbrev S1x256x32x128 : Shape := ⟨4, ![1, 256, 32, 128]⟩
abbrev S32x256x128 : Shape := ⟨3, ![32, 256, 128]⟩
abbrev S32x256x1 : Shape := ⟨3, ![32, 256, 1]⟩
abbrev S256x640 : Shape := ⟨2, ![256, 640]⟩
abbrev S1x256x128 : Shape := ⟨3, ![1, 256, 128]⟩
abbrev S256x128 : Shape := ⟨2, ![256, 128]⟩
abbrev S1x640x128 : Shape := ⟨3, ![1, 640, 128]⟩
abbrev S640x128 : Shape := ⟨2, ![640, 128]⟩
abbrev S256 : Shape := ⟨1, ![256]⟩
abbrev S256x1 : Shape := ⟨2, ![256, 1]⟩
abbrev S1x256x1 : Shape := ⟨3, ![1, 256, 1]⟩
abbrev S1x256x1x128 : Shape := ⟨4, ![1, 256, 1, 128]⟩

abbrev nBuf : Space → Nat
  | .hbm => 15
  | .vmem => 11
  | .smem => 0
  | _ => 0

abbrev bufTy : (tb : Table) → Fin (tcTables nBuf tb) → BufTy
  | .hbm, ⟨0, _⟩ => ⟨S2048x32x128, .f32⟩
  | .hbm, ⟨1, _⟩ => ⟨S1024x16x8x128, .f32⟩
  | .hbm, ⟨2, _⟩ => ⟨S1024x16x8x128, .f32⟩
  | .hbm, ⟨3, _⟩ => ⟨S8x128, .i32⟩
  | .hbm, ⟨4, _⟩ => ⟨S8, .i32⟩
  | .hbm, ⟨5, _⟩ => ⟨S9, .i32⟩
  | .hbm, ⟨6, _⟩ => ⟨S8x256x4096, .f32⟩
  | .hbm, ⟨7, _⟩ => ⟨S8x2048x8x128, .f32⟩
  | .hbm, ⟨8, _⟩ => ⟨S8x1280x8x128, .f32⟩
  | .hbm, ⟨9, _⟩ => ⟨S8x1280x1024, .f32⟩
  | .hbm, ⟨10, _⟩ => ⟨S8x2048x8x128, .f32⟩
  | .hbm, ⟨11, _⟩ => ⟨S8x1280x8x128, .f32⟩
  | .hbm, ⟨12, _⟩ => ⟨S8x1280x1024, .f32⟩
  | .hbm, ⟨13, _⟩ => ⟨S8x256x32x128, .f32⟩
  | .hbm, ⟨14, _⟩ => ⟨S2048x32x128, .f32⟩
  | .local _ .vmem, ⟨0, _⟩ => ⟨S1x256x4096, .f32⟩
  | .local _ .vmem, ⟨1, _⟩ => ⟨S1x256x4096, .f32⟩
  | .local _ .vmem, ⟨2, _⟩ => ⟨S1x640x1024, .f32⟩
  | .local _ .vmem, ⟨3, _⟩ => ⟨S1x640x1024, .f32⟩
  | .local _ .vmem, ⟨4, _⟩ => ⟨S1x640x1024, .f32⟩
  | .local _ .vmem, ⟨5, _⟩ => ⟨S1x640x1024, .f32⟩
  | .local _ .vmem, ⟨6, _⟩ => ⟨S1x256x32x128, .f32⟩
  | .local _ .vmem, ⟨7, _⟩ => ⟨S1x256x32x128, .f32⟩
  | .local _ .vmem, ⟨8, _⟩ => ⟨S32x256x128, .f32⟩
  | .local _ .vmem, ⟨9, _⟩ => ⟨S32x256x1, .f32⟩
  | .local _ .vmem, ⟨10, _⟩ => ⟨S32x256x1, .f32⟩
  | _, _ => ⟨S2048x32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_v0 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 2], ![false, false]⟩

def k0_cond2 (i : grid0.Coords) : BitVec 1 :=
  let arg1 : BitVec 32 := BitVec.ofNat 32 (i 1).val
  let c1_i32 : BitVec 32 := 1#32
  let v19 : BitVec 1 := Scalar.cmpi .eq arg1 c1_i32
  let v20 : BitVec 32 := Scalar.extui v19
  let c0_i32_2 : BitVec 32 := 0#32
  let v21 : BitVec 1 := Scalar.cmpi .ne v20 c0_i32_2
  v21

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x640x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x640x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== KernelIdeal.lean ====
variable {F : FTy → Type} [FloatOps F] [Named F]
def κ : String → Option EReal := fun
  | "mask" => some ⊥
  | "scale_log2e" => some (((Real.sqrt 128)⁻¹ * (Real.log 2)⁻¹ : ℝ) : EReal)
  | _ => none
-- ==== Reference.lean ====
abbrev S2048x32x128 : Shape := ⟨3, ![2048, 32, 128]⟩
abbrev S1024x16x8x128 : Shape := ⟨4, ![1024, 16, 8, 128]⟩
abbrev S8x128 : Shape := ⟨2, ![8, 128]⟩
abbrev S8 : Shape := ⟨1, ![8]⟩
abbrev S9 : Shape := ⟨1, ![9]⟩
abbrev S8x256x8x4x128 : Shape := ⟨5, ![8, 256, 8, 4, 128]⟩
abbrev S_ : Shape := ⟨0, ![]⟩
abbrev S8x128x1 : Shape := ⟨3, ![8, 128, 1]⟩
abbrev S8x128x16x8x128 : Shape := ⟨5, ![8, 128, 16, 8, 128]⟩
abbrev S8x2048x8x128 : Shape := ⟨4, ![8, 2048, 8, 128]⟩
abbrev S8x8x2048x256x4 : Shape := ⟨5, ![8, 8, 2048, 256, 4]⟩
abbrev S8x8x4x256x2048 : Shape := ⟨5, ![8, 8, 4, 256, 2048]⟩
abbrev S256 : Shape := ⟨1, ![256]⟩
abbrev S2048 : Shape := ⟨1, ![2048]⟩
abbrev S1x2048 : Shape := ⟨2, ![1, 2048]⟩
abbrev S256x1 : Shape := ⟨2, ![256, 1]⟩
abbrev S256x2048 : Shape := ⟨2, ![256, 2048]⟩
abbrev S1x1x1x256x2048 : Shape := ⟨5, ![1, 1, 1, 256, 2048]⟩
abbrev S8x8x4x256 : Shape := ⟨4, ![8, 8, 4, 256]⟩
abbrev S8x8x4x256x1 : Shape := ⟨5, ![8, 8, 4, 256, 1]⟩
abbrev S8x8x128x4x256 : Shape := ⟨5, ![8, 8, 128, 4, 256]⟩

abbrev nBuf : Space → Nat
  | .hbm => 74
  | .vmem => 0
  | .smem => 0
  | _ => 0

abbrev bufTy : (tb : Table) → Fin (tcTables nBuf tb) → BufTy
  | .hbm, ⟨0, _⟩ => ⟨S2048x32x128, .f32⟩
  | .hbm, ⟨1, _⟩ => ⟨S1024x16x8x128, .f32⟩
  | .hbm, ⟨2, _⟩ => ⟨S1024x16x8x128, .f32⟩
  | .hbm, ⟨3, _⟩ => ⟨S8x128, .i32⟩
  | .hbm, ⟨4, _⟩ => ⟨S8, .i32⟩
  | .hbm, ⟨5, _⟩ => ⟨S9, .i32⟩
  | .hbm, ⟨6, _⟩ => ⟨S8x256x8x4x128, .f32⟩
  | .hbm, ⟨7, _⟩ => ⟨S_, .i32⟩
  | .hbm, ⟨8, _⟩ => ⟨S8x128, .i32⟩
  | .hbm, ⟨9, _⟩ => ⟨S8x128, .i1⟩
  | .hbm, ⟨10, _⟩ => ⟨S_, .i32⟩
  | .hbm, ⟨11, _⟩ => ⟨S8x128, .i32⟩
  | .hbm, ⟨12, _⟩ => ⟨S8x128, .i32⟩
  | .hbm, ⟨13, _⟩ => ⟨S8x128, .i32⟩
  | .hbm, ⟨14, _⟩ => ⟨S8x128x1, .i32⟩
  | .hbm, ⟨15, _⟩ => ⟨S8x128x16x8x128, .f32⟩
  | .hbm, ⟨16, _⟩ => ⟨S8x2048x8x128, .f32⟩
  | .hbm, ⟨17, _⟩ => ⟨S_, .i32⟩
  | .hbm, ⟨18, _⟩ => ⟨S8x128, .i32⟩
  | .hbm, ⟨19, _⟩ => ⟨S8x128, .i1⟩
  | .hbm, ⟨20, _⟩ => ⟨S_, .i32⟩
  | .hbm, ⟨21, _⟩ => ⟨S8x128, .i32⟩
  | .hbm, ⟨22, _⟩ => ⟨S8x128, .i32⟩
  | .hbm, ⟨23, _⟩ => ⟨S8x128, .i32⟩
  | .hbm, ⟨24, _⟩ => ⟨S8x128x1, .i32⟩
  | .hbm, ⟨25, _⟩ => ⟨S8x128x16x8x128, .f32⟩
  | .hbm, ⟨26, _⟩ => ⟨S8x2048x8x128, .f32⟩
  | .hbm, ⟨27, _⟩ => ⟨S8x8x2048x256x4, .f32⟩
  | .hbm, ⟨28, _⟩ => ⟨S8x8x4x256x2048, .f32⟩
  | .hbm, ⟨29, _⟩ => ⟨S_, .f32⟩
  | .hbm, ⟨30, _⟩ => ⟨S_, .f32⟩
  | .hbm, ⟨31, _⟩ => ⟨S8x8x4x256x2048, .f32⟩
  | .hbm, ⟨32, _⟩ => ⟨S8x8x4x256x2048, .f32⟩
  | .hbm, ⟨33, _⟩ => ⟨S256, .i32⟩
  | .hbm, ⟨34, _⟩ => ⟨S_, .i32⟩
  | .hbm, ⟨35, _⟩ => ⟨S256, .i32⟩
  | .hbm, ⟨36, _⟩ => ⟨S256, .i32⟩
  | .hbm, ⟨37, _⟩ => ⟨S2048, .i32⟩
  | .hbm, ⟨38, _⟩ => ⟨S1x2048, .i32⟩
  | .hbm, ⟨39, _⟩ => ⟨S256x1, .i32⟩
  | .hbm, ⟨40, _⟩ => ⟨S256x2048, .i32⟩
  | .hbm, ⟨41, _⟩ => ⟨S256x2048, .i32⟩
  | .hbm, ⟨42, _⟩ => ⟨S256x2048, .i1⟩
  | .hbm, ⟨43, _⟩ => ⟨S256x1, .i32⟩
  | .hbm, ⟨44, _⟩ => ⟨S1x2048, .i32⟩
  | .hbm, ⟨45, _⟩ => ⟨S256x2048, .i32⟩
  | .hbm, ⟨46, _⟩ => ⟨S256x2048, .i32⟩
  | .hbm, ⟨47, _⟩ => ⟨S256x2048, .i32⟩
  | .hbm, ⟨48, _⟩ => ⟨S_, .i32⟩
  | .hbm, ⟨49, _⟩ => ⟨S256x2048, .i32⟩
  | .hbm, ⟨50, _⟩ => ⟨S256x2048, .i1⟩
  | .hbm, ⟨51, _⟩ => ⟨S256x2048, .i1⟩
  | .hbm, ⟨52, _⟩ => ⟨S1x1x1x256x2048, .i1⟩
  | .hbm, ⟨53, _⟩ => ⟨S_, .f32⟩
  | .hbm, ⟨54, _⟩ => ⟨S8x8x4x256x2048, .i1⟩
  | .hbm, ⟨55, _⟩ => ⟨S8x8x4x256x2048, .f32⟩
  | .hbm, ⟨56, _⟩ => ⟨S8x8x4x256x2048, .f32⟩
  | .hbm, ⟨57, _⟩ => ⟨S_, .f32⟩
  | .hbm, ⟨58, _⟩ => ⟨S8x8x4x256, .f32⟩
  | .hbm, ⟨59, _⟩ => ⟨S_, .f32⟩
  | .hbm, ⟨60, _⟩ => ⟨S8x8x4x256, .f32⟩
  | .hbm, ⟨61, _⟩ => ⟨S8x8x4x256, .f32⟩
  | .hbm, ⟨62, _⟩ => ⟨S8x8x4x256x1, .f32⟩
  | .hbm, ⟨63, _⟩ => ⟨S8x8x4x256x2048, .f32⟩
  | .hbm, ⟨64, _⟩ => ⟨S8x8x4x256x2048, .f32⟩
  | .hbm, ⟨65, _⟩ => ⟨S8x8x4x256x2048, .f32⟩
  | .hbm, ⟨66, _⟩ => ⟨S_, .f32⟩
  | .hbm, ⟨67, _⟩ => ⟨S8x8x4x256, .f32⟩
  | .hbm, ⟨68, _⟩ => ⟨S8x8x4x256x1, .f32⟩
  | .hbm, ⟨69, _⟩ => ⟨S8x8x4x256x2048, .f32⟩
  | .hbm, ⟨70, _⟩ => ⟨S8x8x4x256x2048, .f32⟩
  | .hbm, ⟨71, _⟩ => ⟨S8x8x128x4x256, .f32⟩
  | .hbm, ⟨72, _⟩ => ⟨S8x256x8x4x128, .f32⟩
  | .hbm, ⟨73, _⟩ => ⟨S2048x32x128, .f32⟩
  | _, _ => ⟨S2048x32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_1 : Ref sig .tc := ⟨.hbm, 17, rfl⟩
abbrev main_v9 : Ref sig .tc := ⟨.hbm, 18, rfl⟩
abbrev main_v10 : Ref sig .tc := ⟨.hbm, 19, rfl⟩
abbrev main_c_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_c_4 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_5 : Ref sig .tc := ⟨.hbm, 53, rfl⟩
abbrev main_call0_v0 : Ref sig .tc := ⟨.hbm, 54, rfl⟩
abbrev main_call0_v1 : Ref sig .tc := ⟨.hbm, 55, rfl⟩
abbrev main_v40 : Ref sig .tc := ⟨.hbm, 56, rfl⟩
abbrev main_cst_6 : Ref sig .tc := ⟨.hbm, 57, rfl⟩
abbrev main_v41 : Ref sig .tc := ⟨.hbm, 58, rfl⟩
abbrev main_cst_7 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_8 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩

abbrev nD : Nat := 1
abbrev τ : Topo := Topo.v7x

variable {F : FTy → Type} [FloatOps F]
-- ==== Proof.Head.lean ====
/-
  What one query head of the kernel computes at one grid point, as whole arrays and for any head: the scores of the
  256 query rows against the 640 keys of the block, their row maximum, the weights, the row sum, the weighted values;
  and, at the second key block, the result.  The kernel spells the 32 heads out one by one; here the head is a variable.
-/
module

public import proofs.«01_k».proof.Proof.Gen.KernelIdeal.Frame
public import Idealize.ShloMosaic.Lib.Pipeline.ValueKit

@[expose] public section

set_option maxRecDepth 16384

noncomputable section

open Idealize.ShloMosaic Idealize.ShloMosaic.TcCoe Idealize.SL.Sem

namespace Cert.KernelIdeal.Value

open Cert.KernelIdeal Cert.KernelIdeal.Gen Facts

/-- The 128 columns of head `h` lie inside the query block. -/
theorem q_inb (h : Fin 32) : ∀ a, (![0, 0, h.val * 128] : Fin 3 → ℕ) a + S1x256x128.size a ≤ S1x256x4096.size a := by
  intro a; have := h.isLt
  match a with
  | 0 => exact Nat.le_refl 1
  | 1 => exact Nat.le_refl 256
  | 2 => show h.val * 128 + 128 ≤ 4096; omega

/-- The 128 columns of the key head `h / 4` lie inside the key block (and the value block). -/
theorem k_inb (h : Fin 32) : ∀ a, (![0, 0, h.val / 4 * 128] : Fin 3 → ℕ) a + S1x640x128.size a ≤ S1x640x1024.size a := by
  intro a; have := h.isLt
  match a with
  | 0 => exact Nat.le_refl 1
  | 1 => exact Nat.le_refl 640
  | 2 => show h.val / 4 * 128 + 128 ≤ 1024; omega

/-- Slot `h` of the accumulator scratch is inside it. -/
theorem acc_inb (h : Fin 32) : ∀ a, (![h.val, 0, 0] : Fin 3 → ℕ) a + S1x256x128.size a ≤ S32x256x128.size a := by
  intro a; have := h.isLt
  match a with
  | 0 => show h.val + 1 ≤ 32; omega
  | 1 => exact Nat.le_refl 256
  | 2 => exact Nat.le_refl 128

/-- Slot `h` of the row-maximum scratch (and of the row-sum scratch) is inside it. -/
theorem row_inb (h : Fin 32) : ∀ a, (![h.val, 0, 0] : Fin 3 → ℕ) a + S1x256x1.size a ≤ S32x256x1.size a := by
  intro a; have := h.isLt
  match a with
  | 0 => show h.val + 1 ≤ 32; omega
  | 1 => exact Nat.le_refl 256
  | 2 => exact Nat.le_refl 1

/-- The query rows of head `h`. -/
def headQ (x0 : Vec Ideal S1x256x4096 .f32) (h : Fin 32) : FVec Ideal S256x128 .f32 :=
  shapeCast S256x128 (View.ld (Val := Elt Ideal) (e' := .f32) x0 (Rect.unit (s := S1x256x4096) ![0, 0, h.val * 128] S1x256x128.size (q_inb h))) shapeCasts_S1x256x128_S256x128

/-- The query rows of head `h`, scaled. -/
def headQs (x0 : Vec Ideal S1x256x4096 .f32) (h : Fin 32) : FVec Ideal S256x128 .f32 :=
  mulf (headQ x0 h) (broadcast S256x128 (Named.named (F := Ideal) (φ := .f32) κ "scale_log2e" 0x3E0293EE#32))

/-- The keys (or the values) that query head `h` reads. -/
def headKV (x : Vec Ideal S1x640x1024 .f32) (h : Fin 32) : FVec Ideal S640x128 .f32 :=
  shapeCast S640x128 (View.ld (Val := Elt Ideal) (e' := .f32) x (Rect.unit (s := S1x640x1024) ![0, 0, h.val / 4 * 128] S1x640x128.size (k_inb h))) shapeCasts_S1x640x128_S640x128

/-- The biased scores of head `h`. -/
def headS (b : FVec Ideal S256x640 .f32) (x0 : Vec Ideal S1x256x4096 .f32) (x1 : Vec Ideal S1x640x1024 .f32) (h : Fin 32) : FVec Ideal S256x640 .f32 :=
  addf (matmul dot_S256x128_S640x128_S256x640_1_1_0_0_n_n none (headQs x0 h) (headKV x1 h) (constant S256x640 .f32 0x00000000#32)) b

/-- The row maximum of an array of scores. -/
def rowMax (s : FVec Ideal S256x640 .f32) : FVec Ideal S256x1 .f32 :=
  shapeCast S256x1 (multiReduction .maximumf [1] S256 s 0xFF800000#32 reduces_S256x640_S256 (.inl rfl) rfl) shapeCasts_S256_S256x1

/-- The row sum of an array of weights. -/
def rowSum (p : FVec Ideal S256x640 .f32) : FVec Ideal S256x1 .f32 :=
  shapeCast S256x1 (multiReduction .add [1] S256 p 0x00000000#32 reduces_S256x640_S256 (.inl rfl) rfl) shapeCasts_S256_S256x1

/-- The weights: two to the power of a score less its row's reference value. -/
def weights (s : FVec Ideal S256x640 .f32) (mx : FVec Ideal S256x1 .f32) : FVec Ideal S256x640 .f32 :=
  exp2 (subf s (broadcastTo S256x640 mx broadcasts_S256x1_S256x640))

/-- The values weighted and summed. -/
def weighted (p : FVec Ideal S256x640 .f32) (v : FVec Ideal S640x128 .f32) : FVec Ideal S256x128 .f32 :=
  matmul dot_S256x640_S640x128_S256x128_1_0_0_1_n_n none p v (constant S256x128 .f32 0x00000000#32)

/-- First key block: the row maximum kept for head `h`. -/
def headMax (b : FVec Ideal S256x640 .f32) (x0 : Vec Ideal S1x256x4096 .f32) (x1 : Vec Ideal S1x640x1024 .f32) (h : Fin 32) : FVec Ideal S256x1 .f32 :=
  rowMax (headS b x0 x1 h)

/-- First key block: the row sum kept for head `h`. -/
def headSum (b : FVec Ideal S256x640 .f32) (x0 : Vec Ideal S1x256x4096 .f32) (x1 : Vec Ideal S1x640x1024 .f32) (h : Fin 32) : FVec Ideal S256x1 .f32 :=
  rowSum (weights (headS b x0 x1 h) (headMax b x0 x1 h))

/-- First key block: the weighted values kept for head `h`. -/
def headAcc (b : FVec Ideal S256x640 .f32) (x0 : Vec Ideal S1x256x4096 .f32) (x1 x2 : Vec Ideal S1x640x1024 .f32) (h : Fin 32) : FVec Ideal S256x128 .f32 :=
  weighted (weights (headS b x0 x1 h) (headMax b x0 x1 h)) (headKV x2 h)

/-- Slot `h` of the accumulator scratch. -/
def slotAcc (xs : Vec Ideal S32x256x128 .f32) (h : Fin 32) : FVec Ideal S256x128 .f32 :=
  shapeCast S256x128 (View.ld (Val := Elt Ideal) (e' := .f32) xs (Rect.unit (s := S32x256x128) ![h.val, 0, 0] S1x256x128.size (acc_inb h))) shapeCasts_S1x256x128_S256x128

/-- Slot `h` of a row scratch. -/
def slotRow (xs : Vec Ideal S32x256x1 .f32) (h : Fin 32) : FVec Ideal S256x1 .f32 :=
  shapeCast S256x1 (View.ld (Val := Elt Ideal) (e' := .f32) xs (Rect.unit (s := S32x256x1) ![h.val, 0, 0] S1x256x1.size (row_inb h))) shapeCasts_S1x256x1_S256x1

/-- Second key block: the running row maximum of a head, from the kept one and the block's scores. -/
def newMax (s : FVec Ideal S256x640 .f32) (mx : FVec Ideal S256x1 .f32) : FVec Ideal S256x1 .f32 :=
  maximumf mx (rowMax s)

/-- Second key block: the factor by which what was kept is rescaled. -/
def rescale (s : FVec Ideal S256x640 .f32) (mx : FVec Ideal S256x1 .f32) : FVec Ideal S256x1 .f32 :=
  exp2 (subf mx (newMax s mx))

/-- Second key block: the result of one head, from its scores, its values and the three kept arrays. -/
def result (s : FVec Ideal S256x640 .f32) (v : FVec Ideal S640x128 .f32) (acc : FVec Ideal S256x128 .f32) (mx l : FVec Ideal S256x1 .f32) : FVec Ideal S256x128 .f32 :=
  divf (addf (mulf acc (broadcastTo S256x128 (rescale s mx) broadcasts_S256x1_S256x128)) (weighted (weights s (newMax s mx)) v))
    (broadcastTo S256x128 (addf (mulf l (rescale s mx)) (rowSum (weights s (newMax s mx)))) broadcasts_S256x1_S256x128)

/-- Second key block: the result of head `h`. -/
def headOut (b : FVec Ideal S256x640 .f32) (x0 : Vec Ideal S1x256x4096 .f32) (x1 x2 : Vec Ideal S1x640x1024 .f32)
    (xs0 : Vec Ideal S32x256x128 .f32) (xs1 xs2 : Vec Ideal S32x256x1 .f32) (h : Fin 32) : FVec Ideal S256x128 .f32 :=
  result (headS b x0 x1 h) (headKV x2 h) (slotAcc xs0 h) (slotRow xs1 h) (slotRow xs2 h)

end Cert.KernelIdeal.Value

end
-- ==== Proof.Block.lean ====
/-
  What one grid point leaves.  At the first key block of a sequence: the three scratch arrays, head by head.  At the
  second: the output block, head by head.  Each of the 32 stores is the one array of Head.lean at its head.
-/
module

public import proofs.«01_k».proof.Proof.Head

@[expose] public section

set_option maxRecDepth 16384

noncomputable section

open Idealize.ShloMosaic Idealize.ShloMosaic.TcCoe Idealize.SL.Sem

namespace Cert.KernelIdeal.Value

open Cert.KernelIdeal Cert.KernelIdeal.Gen

/-- Thirty-two arrays of one shape, as one array with a leading axis. -/
def stack {α : Type} {d0 d1 : ℕ} (f : Fin 32 → (⟨2, ![d0, d1]⟩ : Shape).Idx → α) : (⟨3, ![32, d0, d1]⟩ : Shape).Idx → α :=
  fun y => f (y 0) (ix2 (y 1) (y 2))

/-- One stored array, read at a place of its own, is the stack at the place it was stored to. -/
theorem stack_store {α : Type} {d0 d1 : ℕ} (f : Fin 32 → (⟨2, ![d0, d1]⟩ : Shape).Idx → α) (n : ℕ) (hn : n < 32)
    (v : (⟨2, ![d0, d1]⟩ : Shape).Idx → α) (hc : (⟨2, ![d0, d1]⟩ : Shape).ShapeCasts ⟨3, ![1, d0, d1]⟩)
    (x : (⟨3, ![1, d0, d1]⟩ : Shape).Idx) (y : (⟨3, ![32, d0, d1]⟩ : Shape).Idx)
    (e0 : (y 0 : ℕ) = n + (x 0 : ℕ)) (e1 : (y 1 : ℕ) = x 1) (e2 : (y 2 : ℕ) = x 2) (hv : v = f ⟨n, hn⟩) :
    shapeCast ⟨3, ![1, d0, d1]⟩ v hc x = stack f y := by
  subst hv
  have hx0 : (x 0 : ℕ) < 1 := (x 0).isLt
  have hy : y 0 = ⟨n, hn⟩ := Fin.ext (by show (y 0 : ℕ) = n; omega)
  refine (shapeCast_addUnit_apply ![d0, d1] _ _ x).trans ?_
  unfold stack
  rw [hy]
  congr 1
  funext a
  match a with
  | 0 => exact Fin.ext e1.symm
  | 1 => exact Fin.ext e2.symm

/-- Thirty-two arrays of one shape, side by side along a middle axis. -/
def between {α : Type} {d0 d1 : ℕ} (f : Fin 32 → (⟨2, ![d0, d1]⟩ : Shape).Idx → α) : (⟨4, ![1, d0, 32, d1]⟩ : Shape).Idx → α :=
  fun y => f (y 2) (ix2 (y 1) (y 3))

/-- One stored head of the output block, read at a place of its own, is the head's array at the place it was stored to. -/
theorem out_store {α : Type} (f : Fin 32 → (⟨2, ![256, 128]⟩ : Shape).Idx → α) (n : ℕ) (hn : n < 32)
    (v : (⟨2, ![256, 128]⟩ : Shape).Idx → α) (hc : (⟨2, ![256, 128]⟩ : Shape).ShapeCasts ⟨4, ![1, 256, 1, 128]⟩)
    (x : (⟨4, ![1, 256, 1, 128]⟩ : Shape).Idx) (y : (⟨4, ![1, 256, 32, 128]⟩ : Shape).Idx)
    (e1 : (y 1 : ℕ) = x 1) (e2 : (y 2 : ℕ) = n + (x 2 : ℕ)) (e3 : (y 3 : ℕ) = x 3) (hv : v = f ⟨n, hn⟩) :
    shapeCast ⟨4, ![1, 256, 1, 128]⟩ v hc x = between f y := by
  have hx2 : (x 2 : ℕ) < 1 := (x 2).isLt
  have hx0 : (x 0 : ℕ) < 1 := (x 0).isLt
  have hy : y 2 = ⟨n, hn⟩ := Fin.ext (by show (y 2 : ℕ) = n; omega)
  have hr : shapeCast ⟨4, ![1, 256, 1, 128]⟩ v hc x = v (ix2 (y 1) (y 3)) := by
    pointwise
    blk_ext
  rw [hr, hv]
  unfold between
  rw [hy]
  rfl

variable (m : (ℓ : Loc nD τ sig) → Buf (Elt Ideal) ℓ)

/-- First key block: the accumulator scratch. -/
theorem acc_first (c : Dev nD) (t : Fin cfg0.N) (p0 : t.val % 2 = 0) (p1 : ¬t.val % 2 = 1) :
    (outsAt0 m c t.val t.isLt).2.1 = stack (headAcc (k0_pay1 (F := Ideal) (grid0.coords t)) (iblk m c 0 t) (iblk m c 1 t) (iblk m c 2 t)) := by
  funext y
  rw [outsAt0_A m c t p0 p1]
  dsimp only
  unfold sout0_A_0
  frame_out
  canon_tiles x h
  all_goals
    open_payloads
    refine stack_store _ _ ?_ _ _ x y (by first | exact h0 | exact h0.trans (Nat.zero_add _).symm) h1 h2 ?_
    · decide
    · sl_kernel_rfl

/-- First key block: the row-maximum scratch. -/
theorem max_first (c : Dev nD) (t : Fin cfg0.N) (p0 : t.val % 2 = 0) (p1 : ¬t.val % 2 = 1) :
    (outsAt0 m c t.val t.isLt).2.2.1 = stack (headMax (k0_pay1 (F := Ideal) (grid0.coords t)) (iblk m c 0 t) (iblk m c 1 t)) := by
  funext y
  rw [outsAt0_A m c t p0 p1]
  dsimp only
  unfold sout0_A_1
  frame_out
  canon_tiles x h
  all_goals
    open_payloads
    refine stack_store _ _ ?_ _ _ x y (by first | exact h0 | exact h0.trans (Nat.zero_add _).symm) h1 h2 ?_
    · decide
    · sl_kernel_rfl

/-- First key block: the row-sum scratch. -/
theorem sum_first (c : Dev nD) (t : Fin cfg0.N) (p0 : t.val % 2 = 0) (p1 : ¬t.val % 2 = 1) :
    (outsAt0 m c t.val t.isLt).2.2.2 = stack (headSum (k0_pay1 (F := Ideal) (grid0.coords t)) (iblk m c 0 t) (iblk m c 1 t)) := by
  funext y
  rw [outsAt0_A m c t p0 p1]
  dsimp only
  unfold sout0_A_2
  frame_out
  canon_tiles x h
  all_goals
    open_payloads
    refine stack_store _ _ ?_ _ _ x y (by first | exact h0 | exact h0.trans (Nat.zero_add _).symm) h1 h2 ?_
    · decide
    · sl_kernel_rfl

/-- Second key block: the output block, from what the point before left in the three scratch arrays. -/
theorem out_second (c : Dev nD) (t : Fin cfg0.N) (p0 : ¬t.val % 2 = 0) (p1 : t.val % 2 = 1) :
    (outsAt0 m c t.val t.isLt).1
      = between (headOut (k0_pay1 (F := Ideal) (grid0.coords t)) (iblk m c 0 t) (iblk m c 1 t) (iblk m c 2 t)
          (outsAt0 m c (t.val - 1) (Nat.lt_of_le_of_lt (Nat.sub_le _ _) t.isLt)).2.1
          (outsAt0 m c (t.val - 1) (Nat.lt_of_le_of_lt (Nat.sub_le _ _) t.isLt)).2.2.1
          (outsAt0 m c (t.val - 1) (Nat.lt_of_le_of_lt (Nat.sub_le _ _) t.isLt)).2.2.2) := by
  funext y
  rw [outsAt0_B m c t p0 p1]
  dsimp only
  unfold out0_B_3
  generalize (outsAt0 m c (t.val - 1) _).2.1 = a
  generalize (outsAt0 m c (t.val - 1) _).2.2.1 = b
  generalize (outsAt0 m c (t.val - 1) _).2.2.2 = l
  frame_out
  have ea : View.read (Elt Ideal) (View.whole cc0_scratch0) ((Memref.isWhole_whole cc0_scratch0).unread a) = a := (Memref.isWhole_whole cc0_scratch0).read_unread a
  have eb : View.read (Elt Ideal) (View.whole cc0_scratch1) ((Memref.isWhole_whole cc0_scratch1).unread b) = b := (Memref.isWhole_whole cc0_scratch1).read_unread b
  have el : View.read (Elt Ideal) (View.whole cc0_scratch2) ((Memref.isWhole_whole cc0_scratch2).unread l) = l := (Memref.isWhole_whole cc0_scratch2).read_unread l
  rw [ea, eb, el]
  canon_tiles x h
  all_goals
    open_payloads
    refine out_store _ _ ?_ _ _ x y h1 (by first | exact h2 | exact h2.trans (Nat.zero_add _).symm) h3 ?_
    · decide
    · sl_kernel_rfl

end Cert.KernelIdeal.Value

end
-- ==== Proof.HeadAt.lean ====
/-
  The arrays of one head, read at one entry, as sums, maxima and quotients of extended reals.
-/
module

public import proofs.«01_k».proof.Proof.Block

@[expose] public section

set_option maxRecDepth 16384

noncomputable section

open Idealize.ShloMosaic Idealize.ShloMosaic.TcCoe Idealize.SL.Sem

namespace Cert.KernelIdeal.Value

open Cert.KernelIdeal Cert.KernelIdeal.Gen

/-- The factor on the queries: one over the root of 128, times one over the natural logarithm of 2. -/
abbrev qscale : ℝ := (Real.sqrt 128)⁻¹ * (Real.log 2)⁻¹

/-- A head's queries are its 128 columns of the block. -/
theorem headQ_at (x0 : Vec Ideal S1x256x4096 .f32) (h : Fin 32) (r : Fin 256) (e : Fin 128) :
    headQ x0 h (ix2 r e) = x0 (ix3 0 r ⟨h.val * 128 + e.val, by omega⟩) := by
  unfold headQ
  refine (shapeCast_apply _ _ _ (ix3 0 r e) ?_).trans (View.ld_unit_apply_of _ _ _ _ _ _ ?_)
  · rw [Shape.rowMajor_val_two, Shape.rowMajor_val_three]
    show ((0 : ℕ) * 256 + r.val) * 128 + e.val = r.val * 128 + e.val
    omega
  · intro a
    match a with
    | 0 => rfl
    | 1 => exact (Nat.zero_add _).symm
    | 2 => rfl

/-- The scaled queries of a head. -/
theorem headQs_at (x0 : Vec Ideal S1x256x4096 .f32) (h : Fin 32) (r : Fin 256) (e : Fin 128) :
    headQs x0 h (ix2 r e) = x0 (ix3 0 r ⟨h.val * 128 + e.val, by omega⟩) * (qscale : EReal) := by
  have hn : Named.named (F := Ideal) (φ := .f32) κ "scale_log2e" 0x3E0293EE#32 = ((qscale : ℝ) : EReal) := rfl
  unfold headQs
  rw [hn]
  show headQ x0 h (ix2 r e) * (qscale : EReal) = _
  rw [headQ_at]

/-- A head's keys or values are the 128 columns of its key head. -/
theorem headKV_at (x : Vec Ideal S1x640x1024 .f32) (h : Fin 32) (k : Fin 640) (e : Fin 128) :
    headKV x h (ix2 k e) = x (ix3 0 k ⟨h.val / 4 * 128 + e.val, by omega⟩) := by
  unfold headKV
  refine (shapeCast_apply _ _ _ (ix3 0 k e) ?_).trans (View.ld_unit_apply_of _ _ _ _ _ _ ?_)
  · rw [Shape.rowMajor_val_two, Shape.rowMajor_val_three]
    show ((0 : ℕ) * 640 + k.val) * 128 + e.val = k.val * 128 + e.val
    omega
  · intro a
    match a with
    | 0 => rfl
    | 1 => exact (Nat.zero_add _).symm
    | 2 => rfl

/-- A score: the scaled query row times the key, plus the bias. -/
theorem headS_at (b : FVec Ideal S256x640 .f32) (x0 : Vec Ideal S1x256x4096 .f32) (x1 : Vec Ideal S1x640x1024 .f32) (h : Fin 32) (r : Fin 256) (k : Fin 640) :
    headS b x0 x1 h (ix2 r k)
      = (∑ e : Fin 128, x0 (ix3 0 r ⟨h.val * 128 + e.val, by omega⟩) * (qscale : EReal) * x1 (ix3 0 k ⟨h.val / 4 * 128 + e.val, by omega⟩)) + b (ix2 r k) := by
  pointwise [headS]
  simp only [headQs_at, headKV_at]

/-- A row maximum, taken from the bottom of the extended reals up. -/
theorem rowMax_at (s : FVec Ideal S256x640 .f32) (r : Fin 256) (z : Fin 1) :
    rowMax s (ix2 r z) = Finset.univ.fold max (⊥ : EReal) fun k : Fin 640 => s (ix2 r k) := by
  have hb : Ideal.ofBits FTy.f32 4286578688#32 = ⊥ := by simp [Ideal.ofBits, Ideal.ieee]
  pointwise [rowMax]
  rw [hb]

/-- A row's sum. -/
theorem rowSum_at (p : FVec Ideal S256x640 .f32) (r : Fin 256) (z : Fin 1) :
    rowSum p (ix2 r z) = ∑ k : Fin 640, p (ix2 r k) := by
  pointwise [rowSum]

/-- A weight: two to the power of a score less the row's maximum. -/
theorem weights_at (s : FVec Ideal S256x640 .f32) (mx : FVec Ideal S256x1 .f32) (r : Fin 256) (k : Fin 640) :
    weights s mx (ix2 r k) = Ideal.exp2 (s (ix2 r k) - mx (ix2 r 0)) := by
  pointwise [weights]
  rfl

/-- The weighted values of a row. -/
theorem weighted_at (p : FVec Ideal S256x640 .f32) (v : FVec Ideal S640x128 .f32) (r : Fin 256) (d : Fin 128) :
    weighted p v (ix2 r d) = ∑ k : Fin 640, p (ix2 r k) * v (ix2 k d) := by
  pointwise [weighted]

/-- The larger of the kept maximum and the block's. -/
theorem newMax_at (s : FVec Ideal S256x640 .f32) (mx : FVec Ideal S256x1 .f32) (r : Fin 256) :
    newMax s mx (ix2 r 0) = max (mx (ix2 r 0)) (rowMax s (ix2 r 0)) := by
  pointwise [newMax]

/-- The result of a head at one entry. -/
theorem result_at (s : FVec Ideal S256x640 .f32) (v : FVec Ideal S640x128 .f32) (acc : FVec Ideal S256x128 .f32) (mx l : FVec Ideal S256x1 .f32) (r : Fin 256) (d : Fin 128) :
    result s v acc mx l (ix2 r d)
      = Ideal.div (acc (ix2 r d) * Ideal.exp2 (mx (ix2 r 0) - newMax s mx (ix2 r 0)) + ∑ k : Fin 640, Ideal.exp2 (s (ix2 r k) - newMax s mx (ix2 r 0)) * v (ix2 k d))
          (l (ix2 r 0) * Ideal.exp2 (mx (ix2 r 0) - newMax s mx (ix2 r 0)) + ∑ k : Fin 640, Ideal.exp2 (s (ix2 r k) - newMax s mx (ix2 r 0))) := by
  pointwise [result, rescale]
  simp only [weighted_at, rowSum_at, weights_at]
  rfl

/-- A head's slot in a stack of columns. -/
theorem slotRow_at (f : Fin 32 → S256x1.Idx → EReal) (h : Fin 32) (r : Fin 256) : slotRow (stack f) h (ix2 r 0) = f h (ix2 r 0) := by
  pointwise [slotRow, stack]

/-- A head's slot in the stack of accumulators. -/
theorem slotAcc_at (f : Fin 32 → S256x128.Idx → EReal) (h : Fin 32) (r : Fin 256) (d : Fin 128) : slotAcc (stack f) h (ix2 r d) = f h (ix2 r d) := by
  unfold slotAcc
  refine (shapeCast_apply _ _ _ (ix3 0 r d) ?_).trans ((View.ld_unit_apply_of _ _ _ _ _ (ix3 h r d) ?_).trans rfl)
  · rw [Shape.rowMajor_val_two, Shape.rowMajor_val_three]
    show ((0 : ℕ) * 256 + r.val) * 128 + d.val = r.val * 128 + d.val
    omega
  · intro a
    match a with
    | 0 => rfl
    | 1 => exact (Nat.zero_add _).symm
    | 2 => exact (Nat.zero_add _).symm

end Cert.KernelIdeal.Value

end
-- ==== Proof.Entry.lean ====
/-
  What the three operands of the pipelined call hold when it starts, in terms of the arguments.
-/
module

public import proofs.«01_k».proof.Proof.Block

@[expose] public section

set_option maxRecDepth 16384

noncomputable section

open Idealize.ShloMosaic Idealize.ShloMosaic.TcCoe Idealize.SL.Sem

namespace Cert.KernelIdeal.Value

open Cert.KernelIdeal Cert.KernelIdeal.Gen

variable (m : (ℓ : Loc nD τ sig) → Buf (Elt Ideal) ℓ)

/-- The queries, reshaped to one row of 4096 numbers per token. -/
theorem entry_q (c : Dev nD) : V m c main_call0_v0 = shapeCast S8x256x4096 (m ((c.tc : Thread nD τ).loc main_arg0)) shapeCasts_S2048x32x128_S8x256x4096 := by
  show StableHlo.after hostOps0 (fun b => m (c, b)) (Proc.devRef .tc main_call0_v0) = _
  simp only [hostOps0, StableHlo.TRef.unary, StableHlo.TRef.reshape, StableHlo.TRef.toBuf, StableHlo.TRef.ofBuf, cast_eq]
  after_results_simp <;> rfl

/-- The keys of every sequence from position 768 on. -/
theorem entry_k (c : Dev nD) : V m c main_call0_v3 = shapeCast S8x1280x1024 (extractStridedSlice S8x1280x8x128 ![0, 768, 0, 0] (shapeCast S8x2048x8x128 (m ((c.tc : Thread nD τ).loc main_arg1)) shapeCasts_S1024x16x8x128_S8x2048x8x128) slices_S8x2048x8x128_S8x1280x8x128_0_768_0_0) shapeCasts_S8x1280x8x128_S8x1280x1024 := by
  show StableHlo.after hostOps0 (fun b => m (c, b)) (Proc.devRef .tc main_call0_v3) = _
  simp only [hostOps0, StableHlo.TRef.unary, StableHlo.TRef.reshape, StableHlo.TRef.toBuf, StableHlo.TRef.ofBuf, cast_eq]
  after_results_simp <;> rfl

/-- The values of every sequence from position 768 on. -/
theorem entry_v (c : Dev nD) : V m c main_call0_v6 = shapeCast S8x1280x1024 (extractStridedSlice S8x1280x8x128 ![0, 768, 0, 0] (shapeCast S8x2048x8x128 (m ((c.tc : Thread nD τ).loc main_arg2)) shapeCasts_S1024x16x8x128_S8x2048x8x128) slices_S8x2048x8x128_S8x1280x8x128_0_768_0_0) shapeCasts_S8x1280x8x128_S8x1280x1024 := by
  show StableHlo.after hostOps0 (fun b => m (c, b)) (Proc.devRef .tc main_call0_v6) = _
  simp only [hostOps0, StableHlo.TRef.unary, StableHlo.TRef.reshape, StableHlo.TRef.toBuf, StableHlo.TRef.ofBuf, cast_eq]
  after_results_simp <;> rfl

/-- Which block of the queries a point reads: its sequence's. -/
theorem idx_q : ∀ t : Fin cfg0.N, win0_0.index t = ![t.val / 2, 0, 0] := (by decide +kernel : ∀ t : Fin grid0.N, win0_0.index t = ![t.val / 2, 0, 0])
/-- Which block of the keys a point reads: its sequence's, its half. -/
theorem idx_k : ∀ t : Fin cfg0.N, win0_1.index t = ![t.val / 2, t.val % 2, 0] := (by decide +kernel : ∀ t : Fin grid0.N, win0_1.index t = ![t.val / 2, t.val % 2, 0])
/-- Which block of the values a point reads: its sequence's, its half. -/
theorem idx_v : ∀ t : Fin cfg0.N, win0_2.index t = ![t.val / 2, t.val % 2, 0] := (by decide +kernel : ∀ t : Fin grid0.N, win0_2.index t = ![t.val / 2, t.val % 2, 0])
/-- Which block of the output a point writes: its sequence's. -/
theorem idx_o : ∀ t : Fin cfg0.N, win0_3.index t = ![t.val / 2, 0, 0, 0] := (by decide +kernel : ∀ t : Fin grid0.N, win0_3.index t = ![t.val / 2, 0, 0, 0])
/-- The second grid coordinate of a point. -/
theorem coord_kv : ∀ t : Fin cfg0.N, (grid0.coords t 1).val = t.val % 2 := (by decide +kernel : ∀ t : Fin grid0.N, (grid0.coords t 1).val = t.val % 2)

/-- The grid has 16 points. -/
theorem lt_16 (t : Fin cfg0.N) : t.val < 16 := lt_of_lt_of_eq t.isLt N_0

/-- The reshape of the queries, read at a token and a column. -/
theorem q_reshape (x : Vec Ideal S2048x32x128 .f32) (s : Fin 8) (r : Fin 256) (h : Fin 32) (e : Fin 128) :
    shapeCast S8x256x4096 x shapeCasts_S2048x32x128_S8x256x4096 (ix3 s r ⟨h.val * 128 + e.val, by omega⟩)
      = x (ix3 ⟨s.val * 256 + r.val, by omega⟩ h e) := by
  refine shapeCast_apply _ _ _ _ ?_
  rw [Shape.rowMajor_val_three, Shape.rowMajor_val_three]
  show ((s.val * 256 + r.val) * 32 + h.val) * 128 + e.val = (s.val * 256 + r.val) * 4096 + (h.val * 128 + e.val)
  omega

/-- The pages laid out one after the other and cut at position 768, read at a position and a column. -/
theorem kv_reshape (x : Vec Ideal S1024x16x8x128 .f32) (s : Fin 8) (j : Fin 1280) (g : Fin 8) (e : Fin 128) :
    shapeCast S8x1280x1024 (extractStridedSlice S8x1280x8x128 ![0, 768, 0, 0] (shapeCast S8x2048x8x128 x shapeCasts_S1024x16x8x128_S8x2048x8x128) slices_S8x2048x8x128_S8x1280x8x128_0_768_0_0) shapeCasts_S8x1280x8x128_S8x1280x1024
        (ix3 s j ⟨g.val * 128 + e.val, by omega⟩)
      = x (ix4 ⟨s.val * 128 + (768 + j.val) / 16, by omega⟩ ⟨(768 + j.val) % 16, by omega⟩ g e) := by
  refine (shapeCast_apply _ _ _ (ix4 s j g e) ?_).trans ?_
  · rw [Shape.rowMajor_val_three, Shape.rowMajor_val_four]
    show ((s.val * 1280 + j.val) * 8 + g.val) * 128 + e.val = (s.val * 1280 + j.val) * 1024 + (g.val * 128 + e.val)
    omega
  · refine Eq.trans (b := shapeCast S8x2048x8x128 x shapeCasts_S1024x16x8x128_S8x2048x8x128 (ix4 s ⟨768 + j.val, by omega⟩ g e)) ?_ ?_
    · pointwise
    · refine shapeCast_apply _ _ _ _ ?_
      rw [Shape.rowMajor_val_four, Shape.rowMajor_val_four]
      show (((s.val * 128 + (768 + j.val) / 16) * 16 + (768 + j.val) % 16) * 8 + g.val) * 128 + e.val = ((s.val * 2048 + (768 + j.val)) * 8 + g.val) * 128 + e.val
      omega

/-- The query block of a point, at row `r` and column `128 h + e`. -/
theorem q_block (c : Dev nD) (t : Fin cfg0.N) (s : Fin 8) (hs : s.val = t.val / 2) (r : Fin 256) (h : Fin 32) (e : Fin 128) :
    (iblk m c 0 t : Vec Ideal S1x256x4096 .f32) (ix3 0 r ⟨h.val * 128 + e.val, by omega⟩)
      = (m ((c.tc : Thread nD τ).loc main_arg0) : Vec Ideal S2048x32x128 .f32) (ix3 ⟨s.val * 256 + r.val, by omega⟩ h e) := by
  refine Eq.trans (b := V m c main_call0_v0 (ix3 s r ⟨h.val * 128 + e.val, by omega⟩)) ?_ ?_
  · generalize (⟨h.val * 128 + e.val, _⟩ : Fin 4096) = k
    blk_simp [iblk, idx_q t]
    blk_ext [idx_q t]
  · rw [entry_q]
    exact q_reshape _ s r h e

/-- The key block of a point, at row `k` and column `128 g + e`. -/
theorem k_block (c : Dev nD) (t : Fin cfg0.N) (s : Fin 8) (hs : s.val = t.val / 2) (k : Fin 640) (j : Fin 1280) (hj : j.val = 640 * (t.val % 2) + k.val) (g : Fin 8) (e : Fin 128) :
    (iblk m c 1 t : Vec Ideal S1x640x1024 .f32) (ix3 0 k ⟨g.val * 128 + e.val, by omega⟩)
      = (m ((c.tc : Thread nD τ).loc main_arg1) : Vec Ideal S1024x16x8x128 .f32) (ix4 ⟨s.val * 128 + (768 + j.val) / 16, by omega⟩ ⟨(768 + j.val) % 16, by omega⟩ g e) := by
  refine Eq.trans (b := V m c main_call0_v3 (ix3 s j ⟨g.val * 128 + e.val, by omega⟩)) ?_ ?_
  · generalize (⟨g.val * 128 + e.val, _⟩ : Fin 1024) = i
    blk_simp [iblk, idx_k t]
    blk_ext [idx_k t]
  · rw [entry_k]
    exact kv_reshape _ s j g e

/-- The value block of a point, at row `k` and column `128 g + e`. -/
theorem v_block (c : Dev nD) (t : Fin cfg0.N) (s : Fin 8) (hs : s.val = t.val / 2) (k : Fin 640) (j : Fin 1280) (hj : j.val = 640 * (t.val % 2) + k.val) (g : Fin 8) (e : Fin 128) :
    (iblk m c 2 t : Vec Ideal S1x640x1024 .f32) (ix3 0 k ⟨g.val * 128 + e.val, by omega⟩)
      = (m ((c.tc : Thread nD τ).loc main_arg2) : Vec Ideal S1024x16x8x128 .f32) (ix4 ⟨s.val * 128 + (768 + j.val) / 16, by omega⟩ ⟨(768 + j.val) % 16, by omega⟩ g e) := by
  refine Eq.trans (b := V m c main_call0_v6 (ix3 s j ⟨g.val * 128 + e.val, by omega⟩)) ?_ ?_
  · generalize (⟨g.val * 128 + e.val, _⟩ : Fin 1024) = i
    blk_simp [iblk, idx_v t]
    blk_ext [idx_v t]
  · rw [entry_v]
    exact kv_reshape _ s j g e

end Cert.KernelIdeal.Value

end
-- ==== Proof.Window.lean ====
/-
  The sliding window: which keys a query attends to, and the two comparisons of 32-bit integers that decide it.
-/
module

public import Idealize.ShloMosaic.Lib.Pipeline.ValueKit

@[expose] public section

noncomputable section

open Idealize.ShloMosaic

namespace Cert.Window

/-- Key `j` lies in the window of query `r` of its sequence: not after it, and less than 1024 before it. -/
def valid (r : Fin 256) (j : ℕ) : Prop := j ≤ 1792 + r.val ∧ 1792 + r.val < j + 1024

/-- Lying in the window is decidable. -/
instance (r : Fin 256) (j : ℕ) : Decidable (valid r j) := by unfold valid; infer_instance

/-- A small number is the integer that its 32 bits read as. -/
theorem toInt_small (n : ℕ) (h : n < 2 ^ 30) : (BitVec.ofNat 32 n).toInt = n := by
  rw [BitVec.toInt_ofNat']
  exact Int.bmod_eq_of_le (by omega) (by omega)

/-- So is a difference of two small numbers. -/
theorem toInt_diff (n k : ℕ) (hn : n < 2 ^ 30) (hk : k < 2 ^ 30) : (BitVec.ofNat 32 n - BitVec.ofNat 32 k).toInt = (n : ℤ) - k := by
  rw [BitVec.toInt_sub, toInt_small n hn, toInt_small k hk]
  exact Int.bmod_eq_of_le (by omega) (by omega)

/-- The two comparisons together say that the key lies in the window. -/
theorem window_bits (r : Fin 256) (j : ℕ) (hj : j < 2048) (x y : BitVec 32) (hx : x = BitVec.ofNat 32 (1792 + r.val)) (hy : y = BitVec.ofNat 32 j) :
    IntOp.andi (IntOp.cmpi .sle y x) (IntOp.cmpi .slt (IntOp.subi x y) 1024#32) = BitVec.ofBool (decide (valid r j)) := by
  subst hx hy
  have hr := r.isLt
  have e1 : IntOp.cmpi .sle (BitVec.ofNat 32 j) (BitVec.ofNat 32 (1792 + r.val)) = BitVec.ofBool (decide (j ≤ 1792 + r.val)) := by
    show BitVec.ofBool ((BitVec.ofNat 32 j).sle (BitVec.ofNat 32 (1792 + r.val))) = _
    rw [BitVec.sle_eq_decide, toInt_small _ (by omega), toInt_small _ (by omega)]
    simp only [Nat.cast_le]
  have e2 : IntOp.cmpi .slt (IntOp.subi (BitVec.ofNat 32 (1792 + r.val)) (BitVec.ofNat 32 j)) 1024#32 = BitVec.ofBool (decide (1792 + r.val < j + 1024)) := by
    show BitVec.ofBool ((BitVec.ofNat 32 (1792 + r.val) - BitVec.ofNat 32 j).slt (BitVec.ofNat 32 1024)) = _
    rw [BitVec.slt_eq_decide, toInt_diff _ _ (by omega) (by omega), toInt_small _ (by omega)]
    congr 1
    apply decide_eq_decide.mpr
    omega
  rw [e1, e2]
  unfold valid
  by_cases h1 : j ≤ 1792 + r.val <;> by_cases h2 : 1792 + r.val < j + 1024 <;> simp [h1, h2, IntOp.andi]

/-- A choice by the window's bit is a choice by the window. -/
theorem select_window {α : Type} (p : Prop) [Decidable p] (x y : α) : Scalar.select (BitVec.ofBool (decide p)) x y = if p then x else y := by
  by_cases h : p <;> simp [h, Scalar.select]

end Cert.Window

end
-- ==== Proof.Bias.lean ====
/-
  The bias of a score: nothing where the key lies in the query's window, minus infinity elsewhere.
-/
module

public import proofs.«01_k».proof.Proof.Entry
public import proofs.«01_k».proof.Proof.Window

@[expose] public section

set_option maxRecDepth 16384

noncomputable section

open Idealize.ShloMosaic Idealize.ShloMosaic.TcCoe Idealize.SL.Sem

namespace Cert.KernelIdeal.Value

open Cert.KernelIdeal Cert.KernelIdeal.Gen Window

/-- The bias at an entry of a point's block: the point's half of the keys starts at position 768 or 1408. -/
theorem bias_at (t : Fin cfg0.N) (r : Fin 256) (k : Fin 640) :
    k0_pay1 (F := Ideal) (grid0.coords t) (ix2 r k) = if valid r (768 + (640 * (t.val % 2) + k.val)) then 0 else ⊥ := by
  have hn : Named.named (F := Ideal) (φ := .f32) κ "mask" 0xF149F2CA#32 = ⊥ := rfl
  have ht := coord_kv t
  pointwise [k0_pay1]
  rw [Window.window_bits r (768 + (640 * (t.val % 2) + k.val)) (by omega) _ _ ?_ ?_, Window.select_window, hn]
  · show 1792#32 + BitVec.ofNat 32 r.val = _
    rw [BitVec.ofNat_add]
  · rw [ht]
    show 768#32 + BitVec.ofNat 32 (t.val % 2) * 640#32 + BitVec.ofNat 32 k.val = _
    rw [BitVec.ofNat_add, BitVec.ofNat_add, BitVec.ofNat_mul, BitVec.mul_comm, BitVec.add_assoc]

end Cert.KernelIdeal.Value

end
-- ==== Proof.Softmax.lean ====
/-
  The equation, with no program in it: a softmax taken in two blocks of keys with a running maximum and a running sum,
  in powers of two, equals the softmax over all keys, in powers of e, when the keys before the two blocks are masked.
-/
module

public import Idealize.ShloMosaic.Lib.Pipeline.ValueKit

@[expose] public section

noncomputable section

open Idealize.ShloMosaic

namespace Cert.Softmax

/-- Key `k` of block `b`, as a position among all the keys. -/
def pos (b : Fin 2) (k : Fin 640) : Fin 2048 := ⟨768 + (640 * b.val + k.val), by omega⟩

/-- The largest of a family. -/
def top {n : ℕ} (s : Fin n → EReal) : EReal := Finset.univ.fold (max : EReal → EReal → EReal) ⊥ s

/-- Two blocks of scores and of values: the second block's maximum rescales what the first kept. -/
def online (s0 s1 v0 v1 : Fin 640 → EReal) : EReal :=
  Ideal.div ((∑ k, Ideal.exp2 (s0 k - top s0) * v0 k) * Ideal.exp2 (top s0 - max (top s0) (top s1)) + ∑ k, Ideal.exp2 (s1 k - max (top s0) (top s1)) * v1 k)
    ((∑ k, Ideal.exp2 (s0 k - top s0)) * Ideal.exp2 (top s0 - max (top s0) (top s1)) + ∑ k, Ideal.exp2 (s1 k - max (top s0) (top s1)))

/-- The softmax of all scores, mixed with the values. -/
def whole (t v : Fin 2048 → EReal) : EReal :=
  ∑ j, v j * Ideal.div (Ideal.exp (t j - top t)) (∑ i, Ideal.exp (t i - top t))

/-- A score where the key counts, minus infinity where it does not. -/
def mask (p : Prop) [Decidable p] (x : ℝ) : EReal := if p then (x : EReal) else ⊥

/-- The weight of a key before any normalisation. -/
def weight (p : Prop) [Decidable p] (x : ℝ) : ℝ := if p then Real.exp x else 0

/-- A weight is not negative. -/
theorem weight_nonneg (p : Prop) [Decidable p] (x : ℝ) : 0 ≤ weight p x := by
  unfold weight; split
  · exact (Real.exp_pos x).le
  · exact le_refl 0

/-- A masked score is below infinity. -/
theorem mask_lt_top (p : Prop) [Decidable p] (x : ℝ) : mask p x < ⊤ := by
  unfold mask; split
  · exact EReal.coe_lt_top x
  · exact bot_lt_top

/-- No family of masked scores is infinitely large. -/
theorem top_lt_top {n : ℕ} (s : Fin n → EReal) (h : ∀ k, s k < ⊤) : top s < ⊤ :=
  (Finset.fold_max_lt ⊤).mpr ⟨bot_lt_top, fun k _ => h k⟩

/-- Where one key counts, the largest masked score is a number. -/
theorem top_real {n : ℕ} (p : Fin n → Prop) [DecidablePred p] (x : Fin n → ℝ) (h : ∃ k, p k) : ∃ M : ℝ, top (fun k => mask (p k) (x k)) = M := by
  obtain ⟨k, hk⟩ := h
  have hb : ⊥ < top (fun k => mask (p k) (x k)) :=
    (Finset.lt_fold_max ⊥).mpr (.inr ⟨k, Finset.mem_univ k, by unfold mask; rw [if_pos hk]; exact EReal.bot_lt_coe _⟩)
  exact ⟨_, (EReal.coe_toReal (top_lt_top _ fun k => mask_lt_top _ _).ne hb.ne').symm⟩

/-- The larger of a number and something less than infinity is a number. -/
theorem max_real (M : ℝ) (x : EReal) (h : x < ⊤) : ∃ N : ℝ, max (M : EReal) x = N :=
  ⟨_, (EReal.coe_toReal (max_lt (EReal.coe_lt_top M) h).ne (lt_of_lt_of_le (EReal.bot_lt_coe M) (le_max_left _ _)).ne').symm⟩

/-- A power of e of a masked score less a number. -/
theorem exp_mask (p : Prop) [Decidable p] (x T : ℝ) : Ideal.exp (mask p x - (T : EReal)) = ((Real.exp (-T) * weight p x : ℝ) : EReal) := by
  unfold mask weight
  split
  · rw [← EReal.coe_sub, Ideal.exp_coe, ← Real.exp_add]; congr 2; ring
  · rw [EReal.bot_sub, Ideal.exp_bot, mul_zero]; rfl

/-- A power of two is a power of e. -/
theorem two_rpow (x : ℝ) : Real.rpow 2 x = Real.exp (Real.log 2 * x) := Real.rpow_def_of_pos two_pos x

/-- A power of two of a masked score, the score divided by the logarithm of 2, less a number. -/
theorem exp2_mask (p : Prop) [Decidable p] (x M : ℝ) :
    Ideal.exp2 (mask p (x * (Real.log 2)⁻¹) - (M : EReal)) = ((Real.exp (-(Real.log 2 * M)) * weight p x : ℝ) : EReal) := by
  have hl : Real.log 2 ≠ 0 := (Real.log_pos one_lt_two).ne'
  unfold mask weight
  split
  · rw [← EReal.coe_sub, Ideal.exp2_coe, two_rpow, ← Real.exp_add]; congr 2; field_simp; ring
  · rw [EReal.bot_sub, Ideal.exp2_bot, mul_zero]; rfl

/-- A nonnegative number goes into a sum of extended reals. -/
theorem mul_sum {n : ℕ} (r : ℝ) (hr : 0 ≤ r) (f : Fin n → EReal) : (r : EReal) * ∑ k, f k = ∑ k, (r : EReal) * f k := by
  induction (Finset.univ : Finset (Fin n)) using Finset.induction_on with
  | empty => simp
  | insert k s hk ih =>
    rw [Finset.sum_insert hk, Finset.sum_insert hk, EReal.left_distrib_of_nonneg_of_ne_top (EReal.coe_nonneg.mpr hr) (EReal.coe_ne_top r), ih]

/-- A sum of numbers is the number. -/
theorem coe_sum {n : ℕ} (f : Fin n → ℝ) : (∑ k, ((f k : ℝ) : EReal)) = ((∑ k, f k : ℝ) : EReal) := by
  induction (Finset.univ : Finset (Fin n)) using Finset.induction_on with
  | empty => simp
  | insert k s hk ih => rw [Finset.sum_insert hk, Finset.sum_insert hk, ih, EReal.coe_add]

/-- A sum over all keys that vanishes before the two blocks is the sum over the two blocks. -/
theorem sum_blocks {α : Type} [AddCommMonoid α] (f : Fin 2048 → α) (h : ∀ j : Fin 2048, j.val < 768 → f j = 0) :
    ∑ j, f j = ∑ k, f (pos 0 k) + ∑ k, f (pos 1 k) := by
  have e1 : ∑ j, f j = ∑ i : Fin 768, f ⟨i.val, by omega⟩ + ∑ i : Fin 1280, f ⟨768 + i.val, by omega⟩ :=
    Fin.sum_univ_add (a := 768) (b := 1280) f
  have e2 : ∑ i : Fin 1280, f ⟨768 + i.val, by omega⟩ = ∑ k : Fin 640, f ⟨768 + k.val, by omega⟩ + ∑ k : Fin 640, f ⟨768 + (640 + k.val), by omega⟩ :=
    Fin.sum_univ_add (a := 640) (b := 640) fun i : Fin 1280 => f ⟨768 + i.val, by omega⟩
  rw [e1, e2, Finset.sum_eq_zero (fun i _ => h _ i.isLt), zero_add]
  refine congrArg₂ (· + ·) (Finset.sum_congr rfl fun k _ => congrArg f (Fin.ext ?_)) (Finset.sum_congr rfl fun k _ => congrArg f (Fin.ext ?_))
  · show 768 + k.val = 768 + (640 * 0 + k.val); omega
  · show 768 + (640 + k.val) = 768 + (640 * 1 + k.val); omega

/-- A quotient whose two parts carry a common positive factor. -/
theorem div_common (c L : ℝ) (hc : 0 < c) (hL : 0 < L) (A : EReal) : Ideal.div ((c : EReal) * A) ((c * L : ℝ) : EReal) = A * ((1 / L : ℝ) : EReal) := by
  rw [Ideal.div_coe (mul_pos hc hL).ne', mul_comm (c : EReal) A, mul_assoc, ← EReal.coe_mul]
  congr 2
  field_simp

/-- One block's weighted values, the common factor in front. -/
theorem block_values (p : Fin 640 → Prop) [DecidablePred p] (x : Fin 640 → ℝ) (v : Fin 640 → EReal) (M : ℝ) :
    (∑ k, Ideal.exp2 (mask (p k) (x k * (Real.log 2)⁻¹) - (M : EReal)) * v k)
      = ((Real.exp (-(Real.log 2 * M)) : ℝ) : EReal) * ∑ k, ((weight (p k) (x k) : ℝ) : EReal) * v k := by
  rw [mul_sum _ (Real.exp_pos _).le]
  refine Finset.sum_congr rfl fun k _ => ?_
  rw [exp2_mask, EReal.coe_mul, mul_assoc]

/-- One block's weights, the common factor in front. -/
theorem block_weights (p : Fin 640 → Prop) [DecidablePred p] (x : Fin 640 → ℝ) (M : ℝ) :
    (∑ k, Ideal.exp2 (mask (p k) (x k * (Real.log 2)⁻¹) - (M : EReal)))
      = ((Real.exp (-(Real.log 2 * M)) * ∑ k, weight (p k) (x k) : ℝ) : EReal) := by
  rw [Finset.mul_sum, ← coe_sum]
  exact Finset.sum_congr rfl fun k _ => exp2_mask _ _ _

/-- The two blocks: the weighted values over the sum of the weights. -/
theorem online_eq (p0 p1 : Fin 640 → Prop) [DecidablePred p0] [DecidablePred p1] (x0 x1 : Fin 640 → ℝ) (v0 v1 : Fin 640 → EReal) (h : ∃ k, p0 k) :
    online (fun k => mask (p0 k) (x0 k * (Real.log 2)⁻¹)) (fun k => mask (p1 k) (x1 k * (Real.log 2)⁻¹)) v0 v1
      = (∑ k, ((weight (p0 k) (x0 k) : ℝ) : EReal) * v0 k + ∑ k, ((weight (p1 k) (x1 k) : ℝ) : EReal) * v1 k)
        * ((1 / (∑ k, weight (p0 k) (x0 k) + ∑ k, weight (p1 k) (x1 k)) : ℝ) : EReal) := by
  obtain ⟨M, hM⟩ := top_real p0 (fun k => x0 k * (Real.log 2)⁻¹) h
  obtain ⟨N, hN⟩ := max_real M _ (top_lt_top (fun k => mask (p1 k) (x1 k * (Real.log 2)⁻¹)) fun k => mask_lt_top _ _)
  have hL : 0 < ∑ k, weight (p0 k) (x0 k) + ∑ k, weight (p1 k) (x1 k) := by
    obtain ⟨k, hk⟩ := h
    refine add_pos_of_pos_of_nonneg (Finset.sum_pos' (fun k _ => weight_nonneg _ _) ⟨k, Finset.mem_univ k, ?_⟩) (Finset.sum_nonneg fun k _ => weight_nonneg _ _)
    unfold weight; rw [if_pos hk]; exact Real.exp_pos _
  have hr : Real.exp (-(Real.log 2 * M)) * Real.exp (Real.log 2 * (M - N)) = Real.exp (-(Real.log 2 * N)) := by
    rw [← Real.exp_add]; congr 1; ring
  unfold online
  rw [hM, hN, ← EReal.coe_sub, Ideal.exp2_coe, two_rpow, block_values, block_values, block_weights, block_weights]
  rw [mul_comm _ ((Real.exp (Real.log 2 * (M - N)) : ℝ) : EReal), ← mul_assoc, ← EReal.coe_mul, mul_comm (Real.exp (Real.log 2 * (M - N))), hr,
    ← EReal.left_distrib_of_nonneg_of_ne_top (EReal.coe_nonneg.mpr (Real.exp_pos _).le) (EReal.coe_ne_top _)]
  rw [← EReal.coe_mul, ← EReal.coe_add, mul_right_comm, hr, ← mul_add]
  exact div_common _ _ (Real.exp_pos _) hL _

/-- The whole softmax: the weighted values over the sum of the weights. -/
theorem whole_eq (p : Fin 2048 → Prop) [DecidablePred p] (x : Fin 2048 → ℝ) (v : Fin 2048 → EReal) (h : ∃ j, p j) :
    whole (fun j => mask (p j) (x j)) v = (∑ j, ((weight (p j) (x j) : ℝ) : EReal) * v j) * ((1 / ∑ j, weight (p j) (x j) : ℝ) : EReal) := by
  obtain ⟨T, hT⟩ := top_real p x h
  have hL : 0 < ∑ j, weight (p j) (x j) := by
    obtain ⟨k, hk⟩ := h
    refine Finset.sum_pos' (fun k _ => weight_nonneg _ _) ⟨k, Finset.mem_univ k, ?_⟩
    unfold weight; rw [if_pos hk]; exact Real.exp_pos _
  unfold whole
  rw [hT]
  simp only [exp_mask]
  rw [coe_sum, ← Finset.mul_sum, mul_comm _ ((1 / ∑ j, weight (p j) (x j) : ℝ) : EReal), mul_sum _ (by positivity)]
  refine Finset.sum_congr rfl fun j _ => ?_
  rw [EReal.coe_mul (Real.exp (-T)), div_common _ _ (Real.exp_pos _) hL, mul_comm (v j), mul_comm ((weight (p j) (x j) : ℝ) : EReal), mul_assoc]

/-- The two are equal. -/
theorem online_whole (p : Fin 2048 → Prop) [DecidablePred p] (x : Fin 2048 → ℝ) (v : Fin 2048 → EReal)
    (hlow : ∀ j : Fin 2048, j.val < 768 → ¬p j) (h : ∃ k, p (pos 0 k)) :
    online (fun k => mask (p (pos 0 k)) (x (pos 0 k) * (Real.log 2)⁻¹)) (fun k => mask (p (pos 1 k)) (x (pos 1 k) * (Real.log 2)⁻¹))
        (fun k => v (pos 0 k)) (fun k => v (pos 1 k))
      = whole (fun j => mask (p j) (x j)) v := by
  have hw : ∀ j : Fin 2048, j.val < 768 → weight (p j) (x j) = 0 := fun j hj => by unfold weight; rw [if_neg (hlow j hj)]
  rw [online_eq (fun k => p (pos 0 k)) (fun k => p (pos 1 k)) (fun k => x (pos 0 k)) (fun k => x (pos 1 k)) _ _ h,
    whole_eq p x v (h.elim fun k hk => ⟨_, hk⟩),
    sum_blocks (fun j => ((weight (p j) (x j) : ℝ) : EReal) * v j) (fun j hj => by rw [hw j hj, EReal.coe_zero, zero_mul]),
    sum_blocks (fun j => weight (p j) (x j)) hw]

end Cert.Softmax

end
-- ==== Proof.Spec.lean ====
/-
  What both programs compute: attention over the keys in a query's window, for finite queries and keys.
-/
module

public import proofs.«01_k».proof.Proof.Softmax
public import proofs.«01_k».proof.Proof.Window

@[expose] public section

noncomputable section

open Idealize.ShloMosaic

namespace Cert.Spec

/-- The queries' array. -/
abbrev SQ : Shape := ⟨3, ![2048, 32, 128]⟩
/-- The caches' arrays. -/
abbrev SC : Shape := ⟨4, ![1024, 16, 8, 128]⟩

/-- The token of query `r` of sequence `s`. -/
def token (s : Fin 8) (r : Fin 256) : Fin 2048 := ⟨s.val * 256 + r.val, by omega⟩

/-- The key head of a query head. -/
def keyHead (h : Fin 32) : Fin 8 := ⟨h.val / 4, by omega⟩

/-- Position `j` of sequence `s` in a cache: pages of 16 positions, 128 pages to a sequence. -/
def cell (x : SC.Idx → EReal) (s : Fin 8) (j : Fin 2048) (g : Fin 8) (e : Fin 128) : EReal :=
  x (ix4 ⟨s.val * 128 + j.val / 16, by omega⟩ ⟨j.val % 16, by omega⟩ g e)

/-- A query times a key over the root of 128. -/
def score (q : SQ.Idx → EReal) (k : SC.Idx → EReal) (s : Fin 8) (r : Fin 256) (h : Fin 32) (j : Fin 2048) : ℝ :=
  (∑ e : Fin 128, (q (ix3 (token s r) h e)).toReal * (cell k s j (keyHead h) e).toReal) * (Real.sqrt 128)⁻¹

/-- Attention at one entry. -/
def attention (q : SQ.Idx → EReal) (k v : SC.Idx → EReal) (s : Fin 8) (r : Fin 256) (h : Fin 32) (d : Fin 128) : EReal :=
  Softmax.whole (fun j => Softmax.mask (Window.valid r j.val) (score q k s r h j)) fun j => cell v s j (keyHead h) d

/-- An array with no infinite entry. -/
def Finite {s : Shape} (x : s.Idx → EReal) : Prop := ∀ i, x i ≠ ⊤ ∧ x i ≠ ⊥

/-- A finite entry is its real number. -/
theorem Finite.coe {s : Shape} {x : s.Idx → EReal} (h : Finite x) (i : s.Idx) : x i = ((x i).toReal : EReal) :=
  (EReal.coe_toReal (h i).1 (h i).2).symm

/-- The sum of products that the reference divides. -/
theorem dot_key_query (q : SQ.Idx → EReal) (k : SC.Idx → EReal) (hq : Finite q) (hk : Finite k) (s : Fin 8) (r : Fin 256) (h : Fin 32) (j : Fin 2048) :
    Ideal.div (∑ e : Fin 128, cell k s j (keyHead h) e * q (ix3 (token s r) h e)) ((Real.sqrt 128 : ℝ) : EReal) = ((score q k s r h j : ℝ) : EReal) := by
  have e1 : ∀ e : Fin 128, cell k s j (keyHead h) e * q (ix3 (token s r) h e) = (((q (ix3 (token s r) h e)).toReal * (cell k s j (keyHead h) e).toReal : ℝ) : EReal) := fun e => by
    rw [EReal.coe_mul, ← hq.coe, mul_comm]
    congr 1
    exact hk.coe _
  rw [Finset.sum_congr rfl fun e _ => e1 e, Softmax.coe_sum, Ideal.div_coe (by positivity), ← EReal.coe_mul, one_div]
  rfl

/-- The sum of products of the kernel, its query scaled beforehand. -/
theorem dot_scaled (q : SQ.Idx → EReal) (k : SC.Idx → EReal) (hq : Finite q) (hk : Finite k) (s : Fin 8) (r : Fin 256) (h : Fin 32) (j : Fin 2048) :
    (∑ e : Fin 128, q (ix3 (token s r) h e) * (((Real.sqrt 128)⁻¹ * (Real.log 2)⁻¹ : ℝ) : EReal) * cell k s j (keyHead h) e) = ((score q k s r h j * (Real.log 2)⁻¹ : ℝ) : EReal) := by
  have e1 : ∀ e : Fin 128, q (ix3 (token s r) h e) * (((Real.sqrt 128)⁻¹ * (Real.log 2)⁻¹ : ℝ) : EReal) * cell k s j (keyHead h) e
      = (((q (ix3 (token s r) h e)).toReal * (cell k s j (keyHead h) e).toReal * ((Real.sqrt 128)⁻¹ * (Real.log 2)⁻¹) : ℝ) : EReal) := fun e => by
    rw [EReal.coe_mul ((q (ix3 (token s r) h e)).toReal * _), EReal.coe_mul (q (ix3 (token s r) h e)).toReal, ← hq.coe, mul_right_comm]
    congr 2
    exact hk.coe _
  rw [Finset.sum_congr rfl fun e _ => e1 e, Softmax.coe_sum, ← Finset.sum_mul, ← mul_assoc]
  rfl

/-- A number plus the bias is the masked number. -/
theorem add_bias (p : Prop) [Decidable p] (x : ℝ) : (x : EReal) + (if p then 0 else ⊥) = Softmax.mask p x := by
  unfold Softmax.mask
  split
  · exact add_zero _
  · exact EReal.add_bot _

/-- The keys before the two blocks lie outside every window. -/
theorem low_invalid (r : Fin 256) (j : Fin 2048) (hj : j.val < 768) : ¬Window.valid r j.val := fun h => by
  unfold Window.valid at h; omega

/-- The first block holds a key of every window. -/
theorem first_valid (r : Fin 256) : ∃ k : Fin 640, Window.valid r (Softmax.pos 0 k).val :=
  ⟨⟨r.val + 1, by omega⟩, by show _ ≤ _ ∧ _ < _; simp only [Softmax.pos]; constructor <;> simp <;> omega⟩

end Cert.Spec

end
-- ==== Proof.HeadOut.lean ====
/-
  One entry of the block that the second key block of a sequence writes, as the two-block softmax of its scores.
-/
module

public import proofs.«01_k».proof.Proof.HeadAt
public import proofs.«01_k».proof.Proof.Bias
public import proofs.«01_k».proof.Proof.Spec

@[expose] public section

set_option maxRecDepth 16384

noncomputable section

open Idealize.ShloMosaic Idealize.ShloMosaic.TcCoe Idealize.SL.Sem

namespace Cert.KernelIdeal.Value

open Cert.KernelIdeal Cert.KernelIdeal.Gen

/-- The result of a head whose scratch holds what the first block computed. -/
theorem headOut_at (b0 b1 : FVec Ideal S256x640 .f32) (q0 q1 : Vec Ideal S1x256x4096 .f32) (k0 k1 v0 v1 : Vec Ideal S1x640x1024 .f32)
    (h : Fin 32) (r : Fin 256) (d : Fin 128) :
    headOut b1 q1 k1 v1 (stack (headAcc b0 q0 k0 v0)) (stack (headMax b0 q0 k0)) (stack (headSum b0 q0 k0)) h (ix2 r d)
      = Softmax.online (fun k => headS b0 q0 k0 h (ix2 r k)) (fun k => headS b1 q1 k1 h (ix2 r k))
          (fun k => headKV v0 h (ix2 k d)) (fun k => headKV v1 h (ix2 k d)) := by
  unfold headOut
  rw [result_at, newMax_at, slotAcc_at, slotRow_at, slotRow_at]
  unfold headAcc headSum headMax
  rw [weighted_at, rowSum_at, rowMax_at, rowMax_at]
  simp only [weights_at, rowMax_at]
  rfl

variable (m : (ℓ : Loc nD τ sig) → Buf (Elt Ideal) ℓ)

/-- The queries, as an array of extended reals. -/
abbrev argQ (c : Dev nD) : Spec.SQ.Idx → EReal := (m ((c.tc : Thread nD τ).loc main_arg0) : Vec Ideal S2048x32x128 .f32)
/-- The key cache. -/
abbrev argK (c : Dev nD) : Spec.SC.Idx → EReal := (m ((c.tc : Thread nD τ).loc main_arg1) : Vec Ideal S1024x16x8x128 .f32)
/-- The value cache. -/
abbrev argV (c : Dev nD) : Spec.SC.Idx → EReal := (m ((c.tc : Thread nD τ).loc main_arg2) : Vec Ideal S1024x16x8x128 .f32)

/-- A score of a point: the key is position `640 b + k` of the two blocks. -/
theorem score_at (c : Dev nD) (hq : Spec.Finite (argQ m c)) (hk : Spec.Finite (argK m c)) (t : Fin cfg0.N) (s : Fin 8) (b : Fin 2)
    (hs : s.val = t.val / 2) (hb : t.val % 2 = b.val) (h : Fin 32) (r : Fin 256) (k : Fin 640) :
    headS (k0_pay1 (F := Ideal) (grid0.coords t)) (iblk m c 0 t) (iblk m c 1 t) h (ix2 r k)
      = Softmax.mask (Window.valid r (Softmax.pos b k).val) (Spec.score (argQ m c) (argK m c) s r h (Softmax.pos b k) * (Real.log 2)⁻¹) := by
  rw [headS_at, bias_at, hb]
  have e1 : ∀ e : Fin 128, (iblk m c 0 t : Vec Ideal S1x256x4096 .f32) (ix3 0 r ⟨h.val * 128 + e.val, by omega⟩) = argQ m c (ix3 (Spec.token s r) h e) :=
    fun e => q_block m c t s hs r h e
  have e2 : ∀ e : Fin 128, (iblk m c 1 t : Vec Ideal S1x640x1024 .f32) (ix3 0 k ⟨h.val / 4 * 128 + e.val, by omega⟩) = Spec.cell (argK m c) s (Softmax.pos b k) (Spec.keyHead h) e :=
    fun e => k_block m c t s hs k ⟨640 * b.val + k.val, by omega⟩ (by rw [hb]) (Spec.keyHead h) e
  rw [Finset.sum_congr rfl fun e _ => congrArg₂ (· * ·) (congrArg (· * (qscale : EReal)) (e1 e)) (e2 e)]
  exact (congrArg (· + _) (Spec.dot_scaled (argQ m c) (argK m c) hq hk s r h (Softmax.pos b k))).trans (Spec.add_bias _ _)

/-- A value of a point. -/
theorem value_at (c : Dev nD) (t : Fin cfg0.N) (s : Fin 8) (b : Fin 2) (hs : s.val = t.val / 2) (hb : t.val % 2 = b.val) (h : Fin 32) (k : Fin 640) (d : Fin 128) :
    headKV (iblk m c 2 t) h (ix2 k d) = Spec.cell (argV m c) s (Softmax.pos b k) (Spec.keyHead h) d := by
  rw [headKV_at]
  exact v_block m c t s hs k ⟨640 * b.val + k.val, by omega⟩ (by rw [hb]) (Spec.keyHead h) d

/-- One entry of the output block of a sequence's second point: attention. -/
theorem out_at (c : Dev nD) (hq : Spec.Finite (argQ m c)) (hk : Spec.Finite (argK m c)) (t : Fin cfg0.N) (ht : t.val % 2 = 1) (s : Fin 8)
    (hs : s.val = t.val / 2) (z : Fin 1) (r : Fin 256) (h : Fin 32) (d : Fin 128) :
    (outsAt0 m c t.val t.isLt).1 (ix4 z r h d) = Spec.attention (argQ m c) (argK m c) (argV m c) s r h d := by
  have hp : t.val - 1 < cfg0.N := Nat.lt_of_le_of_lt (Nat.sub_le _ _) t.isLt
  have hp0 : (⟨t.val - 1, hp⟩ : Fin cfg0.N).val % 2 = 0 := by show (t.val - 1) % 2 = 0; omega
  have hp1 : ¬(⟨t.val - 1, hp⟩ : Fin cfg0.N).val % 2 = 1 := by omega
  have hps : s.val = (⟨t.val - 1, hp⟩ : Fin cfg0.N).val / 2 := by show s.val = (t.val - 1) / 2; omega
  have ea := acc_first m c ⟨t.val - 1, hp⟩ hp0 hp1
  have em := max_first m c ⟨t.val - 1, hp⟩ hp0 hp1
  have el := sum_first m c ⟨t.val - 1, hp⟩ hp0 hp1
  rw [out_second m c t (by omega) ht]
  rw [ea, em, el]
  show headOut _ _ _ _ _ _ _ h (ix2 r d) = _
  rw [headOut_at]
  simp only [score_at m c hq hk t s 1 hs ht, score_at m c hq hk ⟨t.val - 1, hp⟩ s 0 hps hp0, value_at m c t s 1 hs ht, value_at m c ⟨t.val - 1, hp⟩ s 0 hps hp0]
  exact Softmax.online_whole (fun j => Window.valid r j.val) (fun j => Spec.score (argQ m c) (argK m c) s r h j) (fun j => Spec.cell (argV m c) s j (Spec.keyHead h) d)
    (Spec.low_invalid r) (Spec.first_valid r)

end Cert.KernelIdeal.Value

end
-- ==== Proof.Array.lean ====
/-
  The array that the kernel's output window leaves, and its reshape: attention at every entry.
-/
module

public import proofs.«01_k».proof.Proof.HeadOut

@[expose] public section

set_option maxRecDepth 16384

noncomputable section

open Idealize.ShloMosaic Idealize.ShloMosaic.TcCoe Idealize.SL.Sem

namespace Cert.KernelIdeal.Value

open Cert.KernelIdeal Cert.KernelIdeal.Gen Facts

variable (m : (ℓ : Loc nD τ sig) → Buf (Elt Ideal) ℓ)

/-- Attention as an array by sequence, query, head, dimension. -/
def attentionArray (c : Dev nD) : FVec Ideal S8x256x32x128 .f32 :=
  fun y => Spec.attention (argQ m c) (argK m c) (argV m c) (y 0) (y 1) (y 2) (y 3)

/-- After the run the output window's array holds attention. -/
theorem final_array (c : Dev nD) (hq : Spec.Finite (argQ m c)) (hk : Spec.Finite (argK m c)) :
    (dats m 0 c).arrAt 3 cfg0.N = attentionArray m c := by
  refine (dats m 0 c).arrAt_eq_of_covers 3 (attentionArray m c) (by decide +kernel) fun t hf y => ?_
  have ht : t.val % 2 = 1 := (flush0_3 t).mp hf
  blk_simp
  rw [after0_3]
  have hs : t.val / 2 < 8 := by have := lt_16 t; omega
  have ey : y = ix4 (y 0) (y 1) (y 2) (y 3) := by
    funext a; fin_cases a <;> rfl
  have ee : (win0_3.blk t).view.emb y = ix4 (⟨t.val / 2, hs⟩ : Fin 8) (y 1) (y 2) (y 3) := by
    blk_ext [idx_o t]
  rw [ee]
  refine (congrArg (outsAt0 m c t.val t.isLt).1 ey).trans ?_
  exact out_at m c hq hk t ht ⟨t.val / 2, hs⟩ rfl (y 0) (y 1) (y 2) (y 3)

/-- The result buffer is the array, reshaped. -/
theorem result_buffer (c : Dev nD) :
    Pipeline.afterTail₀ cfgs (dats m) 0 (V0 m) [hostOps1] c main_v0
      = (shapeCast S2048x32x128 ((dats m 0 c).arrAt 3 cfg0.N : FVec Ideal S8x256x32x128 .f32) shapeCasts_S8x256x32x128_S2048x32x128 : FVec Ideal S2048x32x128 .f32) := by
  unfold Pipeline.afterTail₀
  simp only [hostOps1, List.flatten_cons, List.flatten_nil, List.append_nil]
  after_results_simp
  exact congrArg (fun x : FVec Ideal S8x256x32x128 .f32 => shapeCast S2048x32x128 x shapeCasts_S8x256x32x128_S2048x32x128)
    (Pipeline.withArrays_arr spec0 launch0.win.arr_inj c (V0 m c) (fun w => (dats m 0 c).arrAt w cfg0.N) 3)

/-- One entry of the kernel's result. -/
theorem result_entry (c : Dev nD) (hq : Spec.Finite (argQ m c)) (hk : Spec.Finite (argK m c)) (s : Fin 8) (r : Fin 256) (h : Fin 32) (d : Fin 128) :
    (Pipeline.afterTail₀ cfgs (dats m) 0 (V0 m) [hostOps1] c main_v0 : FVec Ideal S2048x32x128 .f32) (ix3 (Spec.token s r) h d)
      = Spec.attention (argQ m c) (argK m c) (argV m c) s r h d := by
  rw [result_buffer, final_array m c hq hk]
  refine (shapeCast_apply _ _ _ (ix4 s r h d) ?_).trans rfl
  rw [Shape.rowMajor_val_three, Shape.rowMajor_val_four]
  show ((s.val * 256 + r.val) * 32 + h.val) * 128 + d.val = _
  rfl

end Cert.KernelIdeal.Value

end
-- ==== Proof.RefStages.lean ====
/-
  The reference's result in stages, as whole arrays: the page numbers, the keys gathered by page, the scores, the
  window's mask, the softmax over all 2048 keys, the values weighted.
-/
module

public import proofs.«01_k».proof.Proof.Gen.ReferenceIdeal.Run
public import proofs.«01_k».proof.Proof.Window

@[expose] public section

set_option maxRecDepth 16384

noncomputable section

open Idealize.ShloMosaic Idealize.ShloMosaic.TcCoe Idealize.SL.Sem

namespace Cert.ReferenceIdeal.Stages

open Cert.ReferenceIdeal Cert.ReferenceIdeal.Gen Facts

/-- The page numbers, a negative one counted from the end. -/
def pages (bt : IVec S8x128 32) : IVec S8x128x1 32 :=
  broadcastInDim S8x128x1 ![0, 1] bcast_S8x128_S8x128x1_0_1 (select (cmpi .slt bt (broadcastInDim S8x128 ![] bcast_S_S8x128 (constantI S_ 32 0#32))) (addi bt (broadcastInDim S8x128 ![] bcast_S_S8x128 (constantI S_ 32 1024#32))) bt)

/-- The pages of every sequence laid out one after the other. -/
def cache (x : FVec Ideal S1024x16x8x128 .f32) (bt : IVec S8x128 32) : FVec Ideal S8x2048x8x128 .f32 :=
  shapeCast _ (Host.gather gather_S1024x16x8x128_S8x128x1_S8x128x16x8x128_234_0_n_n_0_2_1168128 x (pages bt)) shapeCasts_S8x128x16x8x128_S8x2048x8x128

/-- The queries by sequence, position, key head, query head of that key head. -/
def queries (q : FVec Ideal S2048x32x128 .f32) : FVec Ideal S8x256x8x4x128 .f32 :=
  shapeCast _ q shapeCasts_S2048x32x128_S8x256x8x4x128

/-- The scores: a query times a key, over the root of 128. -/
def scores (k : FVec Ideal S8x2048x8x128 .f32) (q : FVec Ideal S8x256x8x4x128 .f32) : FVec Ideal S8x8x4x256x2048 .f32 :=
  Host.divf (transpose S8x8x4x256x2048 [0, 1, 4, 3, 2] (Host.dotGeneral dot_S8x2048x8x128_S8x256x8x4x128_S8x8x2048x256x4_3_4_1_13_02_02 none k q) transposes_S8x8x2048x256x4_S8x8x4x256x2048_0_1_4_3_2) (broadcastInDim S8x8x4x256x2048 ![] bcast_S_S8x8x4x256x2048 (Host.sqrt (constant S_ .f32 0x43000000#32)))

/-- The window's bit for a query position and a key position. -/
def window : IVec S256x2048 1 :=
  andi (cmpi .sle (broadcastInDim S256x2048 ![0, 1] bcast_S1x2048_S256x2048_0_1 (broadcastInDim S1x2048 ![1] bcast_S2048_S1x2048_1 (iotaInDim S2048 32 0))) (broadcastInDim S256x2048 ![0, 1] bcast_S256x1_S256x2048_0_1 (broadcastInDim S256x1 ![0] bcast_S256_S256x1_0 (addi (broadcastInDim S256 ![] bcast_S_S256 (constantI S_ 32 1792#32)) (iotaInDim S256 32 0)))))
    (cmpi .slt (subi (broadcastInDim S256x2048 ![0, 1] bcast_S256x1_S256x2048_0_1 (broadcastInDim S256x1 ![0] bcast_S256_S256x1_0 (addi (broadcastInDim S256 ![] bcast_S_S256 (constantI S_ 32 1792#32)) (iotaInDim S256 32 0)))) (broadcastInDim S256x2048 ![0, 1] bcast_S1x2048_S256x2048_0_1 (broadcastInDim S1x2048 ![1] bcast_S2048_S1x2048_1 (iotaInDim S2048 32 0)))) (broadcastInDim S256x2048 ![] bcast_S_S256x2048 (constantI S_ 32 1024#32)))

/-- The scores, minus infinity outside the window. -/
def masked (w : IVec S256x2048 1) (s : FVec Ideal S8x8x4x256x2048 .f32) : FVec Ideal S8x8x4x256x2048 .f32 :=
  select (broadcastInDim S8x8x4x256x2048 ![0, 1, 2, 3, 4] bcast_S1x1x1x256x2048_S8x8x4x256x2048_0_1_2_3_4 (broadcastInDim S1x1x1x256x2048 ![3, 4] bcast_S256x2048_S1x1x1x256x2048_3_4 w)) s (broadcastInDim S8x8x4x256x2048 ![] bcast_S_S8x8x4x256x2048 (constant S_ .f32 0xFF800000#32))

/-- The largest score of a row. -/
def largest (s : FVec Ideal S8x8x4x256x2048 .f32) : FVec Ideal S8x8x4x256 .f32 :=
  maximumf (broadcastInDim S8x8x4x256 ![] bcast_S_S8x8x4x256 (constant S_ .f32 0xFF800000#32)) (Host.reduce FloatOps.maximumf s (constant S_ .f32 0xFF800000#32) reducesTo_S8x8x4x256x2048_S8x8x4x256_d4 h_S_)

/-- One number per row, spread over the row. -/
def spread (x : FVec Ideal S8x8x4x256 .f32) : FVec Ideal S8x8x4x256x2048 .f32 :=
  broadcastInDim S8x8x4x256x2048 ![0, 1, 2, 3, 4] bcast_S8x8x4x256x1_S8x8x4x256x2048_0_1_2_3_4 (broadcastInDim S8x8x4x256x1 ![0, 1, 2, 3] bcast_S8x8x4x256_S8x8x4x256x1_0_1_2_3 x)

/-- The exponentials of the scores less the largest. -/
def powers (s : FVec Ideal S8x8x4x256x2048 .f32) : FVec Ideal S8x8x4x256x2048 .f32 :=
  Host.exp (subf s (spread (largest s)))

/-- The sum of a row. -/
def total (p : FVec Ideal S8x8x4x256x2048 .f32) : FVec Ideal S8x8x4x256 .f32 :=
  Host.reduceAdd p (constant S_ .f32 0x00000000#32) reducesTo_S8x8x4x256x2048_S8x8x4x256_d4 h_S_

/-- The softmax's probabilities from its exponentials. -/
def shares (p : FVec Ideal S8x8x4x256x2048 .f32) : FVec Ideal S8x8x4x256x2048 .f32 :=
  Host.divf p (spread (total p))

/-- The values weighted by the probabilities. -/
def mix (v : FVec Ideal S8x2048x8x128 .f32) (p : FVec Ideal S8x8x4x256x2048 .f32) : FVec Ideal S2048x32x128 .f32 :=
  shapeCast _ (transpose S8x256x8x4x128 [0, 4, 1, 3, 2] (Host.dotGeneral dot_S8x2048x8x128_S8x8x4x256x2048_S8x8x128x4x256_1_4_3_23_02_01 none v p) transposes_S8x8x128x4x256_S8x256x8x4x128_0_4_1_3_2) shapeCasts_S8x256x8x4x128_S2048x32x128

/-- The reference's result, by its stages. -/
theorem result_stages (m : (ℓ : Loc nD τ sig) → Buf (Elt Ideal) ℓ) (c : Dev nD) :
    Value.res_out0 m c
      = mix (cache (m ((c.tc : Thread nD τ).loc main_arg2)) (m ((c.tc : Thread nD τ).loc main_arg3)))
          (shares (powers (masked window (scores (cache (m ((c.tc : Thread nD τ).loc main_arg1)) (m ((c.tc : Thread nD τ).loc main_arg3))) (queries (m ((c.tc : Thread nD τ).loc main_arg0))))))) := by
  unfold Value.res_out0 Value.res_main_v54
  rfl

end Cert.ReferenceIdeal.Stages

end
-- ==== Proof.RefScores.lean ====
/-
  The reference's scores, softmax and weighted values, read at one entry.
-/
module

public import proofs.«01_k».proof.Proof.RefStages

@[expose] public section

set_option maxRecDepth 16384

noncomputable section

open Idealize.ShloMosaic Idealize.ShloMosaic.TcCoe Idealize.SL.Sem

namespace Cert.ReferenceIdeal.Stages

open Cert.ReferenceIdeal Cert.ReferenceIdeal.Gen Facts

/-- The word of minus infinity. -/
theorem bits_bottom : Ideal.ofBits FTy.f32 0xFF800000#32 = ⊥ := by simp [Ideal.ofBits, Ideal.ieee]

/-- The word of 128. -/
theorem bits_128 : Ideal.ofBits FTy.f32 0x43000000#32 = ((128 : ℝ) : EReal) := by
  simp [Ideal.ofBits, Ideal.ieee, -EReal.coe_mul]; norm_num

/-- The root of 128 is a number. -/
theorem sqrt_128 : Ideal.sqrt ((128 : ℝ) : EReal) = ((Real.sqrt 128 : ℝ) : EReal) := by
  rw [Ideal.sqrt_coe, if_neg (by norm_num)]

/-- The window's bit as two comparisons of the positions. -/
theorem window_at (r : Fin 256) (j : Fin 2048) :
    window (ix2 r j) = IntOp.andi (IntOp.cmpi .sle (BitVec.ofNat 32 j.val) (1792#32 + BitVec.ofNat 32 r.val)) (IntOp.cmpi .slt (IntOp.subi (1792#32 + BitVec.ofNat 32 r.val) (BitVec.ofNat 32 j.val)) 1024#32) := by
  pointwise [window]
  rfl

/-- One score: a query times a key, over the root of 128. -/
theorem scores_at (k : FVec Ideal S8x2048x8x128 .f32) (q : FVec Ideal S8x256x8x4x128 .f32) (s h : Fin 8) (g : Fin 4) (r : Fin 256) (j : Fin 2048) :
    scores k q (ix5 s h g r j) = Ideal.div (∑ e : Fin 128, k (ix4 s j h e) * q (ix5 s r h g e)) ((Real.sqrt 128 : ℝ) : EReal) := by
  pointwise [scores]
  rw [bits_128, sqrt_128]

/-- One masked score. -/
theorem masked_at (w : IVec S256x2048 1) (x : FVec Ideal S8x8x4x256x2048 .f32) (s h : Fin 8) (g : Fin 4) (r : Fin 256) (j : Fin 2048) :
    masked w x (ix5 s h g r j) = Scalar.select (w (ix2 r j)) (x (ix5 s h g r j)) ⊥ := by
  pointwise [masked]
  rw [bits_bottom]

/-- A row's largest entry, from the initial value. -/
theorem fold_at (x : FVec Ideal S8x8x4x256x2048 .f32) (z : FVec Ideal S_ .f32) (s h : Fin 8) (g : Fin 4) (r : Fin 256) :
    Host.reduce (FloatOps.maximumf : Ideal .f32 → Ideal .f32 → Ideal .f32) x z reducesTo_S8x8x4x256x2048_S8x8x4x256_d4 h_S_ (ix4 s h g r)
      = Finset.univ.fold (max : EReal → EReal → EReal) (z (Shape.Idx.first h_S_)) fun j : Fin 2048 => x (ix5 s h g r j) := by
  have hr : S8x8x4x256x2048.Reduces [4] S8x8x4x256 := by decide
  refine (Host.reduce_eq_fold_single (max : EReal → EReal → EReal) x z reducesTo_S8x8x4x256x2048_S8x8x4x256_d4 hr h_S_ (ix4 s h g r)).trans ?_
  refine Finset.fold_congr fun j _ => congrArg x (funext fun a => Fin.ext ?_)
  match a with
  | 0 => rfl
  | 1 => rfl
  | 2 => rfl
  | 3 => rfl
  | 4 => rfl

/-- A maximum of arrays, entry by entry. -/
theorem max_read (a b : FVec Ideal S8x8x4x256 .f32) (i : S8x8x4x256.Idx) : maximumf a b i = max (a i) (b i) := rfl

/-- The array of minus infinities. -/
theorem bottom_read (i : S8x8x4x256.Idx) : (broadcastInDim S8x8x4x256 ![] bcast_S_S8x8x4x256 (constant (F := Ideal) S_ .f32 0xFF800000#32) : FVec Ideal S8x8x4x256 .f32) i = ⊥ :=
  bits_bottom

/-- The initial value of the maximum. -/
theorem bottom_first : constant (F := Ideal) S_ .f32 0xFF800000#32 (Shape.Idx.first h_S_) = ⊥ := bits_bottom

/-- The largest score of a row. -/
theorem largest_at (x : FVec Ideal S8x8x4x256x2048 .f32) (s h : Fin 8) (g : Fin 4) (r : Fin 256) :
    largest x (ix4 s h g r) = Finset.univ.fold (max : EReal → EReal → EReal) ⊥ fun j : Fin 2048 => x (ix5 s h g r j) := by
  unfold largest
  rw [max_read, bottom_read, fold_at, bottom_first, max_eq_right bot_le]

/-- The sum of a row. -/
theorem total_at (x : FVec Ideal S8x8x4x256x2048 .f32) (s h : Fin 8) (g : Fin 4) (r : Fin 256) :
    total x (ix4 s h g r) = ∑ j : Fin 2048, x (ix5 s h g r j) := by
  pointwise [total]

/-- A row's number at each of the row's entries. -/
theorem spread_at (x : FVec Ideal S8x8x4x256 .f32) (s h : Fin 8) (g : Fin 4) (r : Fin 256) (j : Fin 2048) :
    spread x (ix5 s h g r j) = x (ix4 s h g r) := by
  pointwise [spread]

/-- One exponential. -/
theorem powers_at (x : FVec Ideal S8x8x4x256x2048 .f32) (s h : Fin 8) (g : Fin 4) (r : Fin 256) (j : Fin 2048) :
    powers x (ix5 s h g r j) = Ideal.exp (x (ix5 s h g r j) - largest x (ix4 s h g r)) := by
  show Ideal.exp (x (ix5 s h g r j) - spread (largest x) (ix5 s h g r j)) = _
  rw [spread_at]

/-- One probability. -/
theorem shares_at (x : FVec Ideal S8x8x4x256x2048 .f32) (s h : Fin 8) (g : Fin 4) (r : Fin 256) (j : Fin 2048) :
    shares x (ix5 s h g r j) = Ideal.div (x (ix5 s h g r j)) (total x (ix4 s h g r)) := by
  show Ideal.div (x (ix5 s h g r j)) (spread (total x) (ix5 s h g r j)) = _
  rw [spread_at]

/-- One entry of the result: the values weighted by the probabilities. -/
theorem mix_at (v : FVec Ideal S8x2048x8x128 .f32) (p : FVec Ideal S8x8x4x256x2048 .f32) (s h : Fin 8) (g : Fin 4) (r : Fin 256) (d : Fin 128) :
    mix v p (ix3 ⟨s.val * 256 + r.val, by omega⟩ ⟨h.val * 4 + g.val, by omega⟩ d) = ∑ j : Fin 2048, v (ix4 s j h d) * p (ix5 s h g r j) := by
  unfold mix
  refine (shapeCast_apply _ _ _ (ix5 s r h g d) ?_).trans ?_
  · rw [Shape.rowMajor_val_three, Shape.rowMajor_val_five]
    show (((s.val * 256 + r.val) * 8 + h.val) * 4 + g.val) * 128 + d.val = ((s.val * 256 + r.val) * 32 + (h.val * 4 + g.val)) * 128 + d.val
    omega
  · pointwise

/-- One entry of the reshaped queries. -/
theorem queries_at (q : FVec Ideal S2048x32x128 .f32) (s h : Fin 8) (g : Fin 4) (r : Fin 256) (e : Fin 128) :
    queries q (ix5 s r h g e) = q (ix3 ⟨s.val * 256 + r.val, by omega⟩ ⟨h.val * 4 + g.val, by omega⟩ e) := by
  unfold queries
  refine shapeCast_apply _ _ _ _ ?_
  rw [Shape.rowMajor_val_three, Shape.rowMajor_val_five]
  show ((s.val * 256 + r.val) * 32 + (h.val * 4 + g.val)) * 128 + e.val = (((s.val * 256 + r.val) * 8 + h.val) * 4 + g.val) * 128 + e.val
  omega

end Cert.ReferenceIdeal.Stages

end
-- ==== Proof.RefPages.lean ====
/-
  The reference's gathered pages, read at one entry.
-/
module

public import proofs.«01_k».proof.Proof.RefStages

@[expose] public section

set_option maxRecDepth 16384

noncomputable section

open Idealize.ShloMosaic Idealize.ShloMosaic.TcCoe Idealize.SL.Sem

namespace Cert.ReferenceIdeal.Stages

open Cert.ReferenceIdeal Cert.ReferenceIdeal.Gen Facts

/-- The page table that the precondition states gives the page numbers as they stand. -/
theorem pages_at (bt : IVec S8x128 32) (s : Fin 8) (b : Fin 128) (hb : bt (ix2 s b) = BitVec.ofNat 32 (s.val * 128 + b.val)) :
    pages bt (ix3 s b 0) = BitVec.ofNat 32 (s.val * 128 + b.val) := by
  have hn : IntOp.cmpi .slt (BitVec.ofNat 32 (s.val * 128 + b.val)) 0#32 = BitVec.ofBool (decide False) := by
    show BitVec.ofBool ((BitVec.ofNat 32 (s.val * 128 + b.val)).slt (BitVec.ofNat 32 0)) = _
    rw [BitVec.slt_eq_decide, Window.toInt_small _ (by omega), Window.toInt_small _ (by omega)]
    congr 1
  pointwise [pages]
  rw [hb, hn, Window.select_window, if_neg id]

/-- The page number moves the first axis alone. -/
theorem start_other (y : S8x128x16x8x128.Idx) (idx : IVec S8x128x1 32) (a : Fin 4) (ha : a ≠ 0) :
    gather_S1024x16x8x128_S8x128x1_S8x128x16x8x128_234_0_n_n_0_2_1168128.start y idx a = 0 := by
  unfold GatherDims.start
  exact dif_neg fun h => ha (List.mem_singleton.mp h)

/-- A gathered page at one entry. -/
theorem gather_at (x : FVec Ideal S1024x16x8x128 .f32) (idx : IVec S8x128x1 32) (s : Fin 8) (b : Fin 128) (i : Fin 16) (h : Fin 8) (e : Fin 128)
    (p : Fin 1024) (hp : idx (ix3 s b 0) = BitVec.ofNat 32 p.val) :
    Host.gather gather_S1024x16x8x128_S8x128x1_S8x128x16x8x128_234_0_n_n_0_2_1168128 x idx (ix5 s b i h e) = x (ix4 p i h e) := by
  unfold Host.gather
  refine congrArg x (funext fun a => Fin.ext ?_)
  generalize hd : gather_S1024x16x8x128_S8x128x1_S8x128x16x8x128_234_0_n_n_0_2_1168128 = d
  show d.start (ix5 s b i h e) idx a + d.batchCoord (ix5 s b i h e) a + d.offCoord (ix5 s b i h e) a = _
  subst hd
  rw [GatherDims.batchCoord_eq_zero _ _ _ (fun h => by cases h), Nat.add_zero]
  match a with
  | 0 =>
    rw [GatherDims.offCoord_eq_zero _ _ _ (fun h => ((GatherDims.mem_sKept _ _).mp h).1 (List.mem_singleton.mpr rfl)), Nat.add_zero]
    unfold GatherDims.start
    rw [dif_pos (show (0 : Fin 4) ∈ gather_S1024x16x8x128_S8x128x1_S8x128x16x8x128_234_0_n_n_0_2_1168128.startIndexMap from List.mem_singleton.mpr rfl)]
    have hs : ∀ q, gather_S1024x16x8x128_S8x128x1_S8x128x16x8x128_234_0_n_n_0_2_1168128.siIdx (ix5 s b i h e) q = ix3 s b 0 := by
      intro q
      funext k
      refine Fin.ext ?_
      match k with
      | 0 => rfl
      | 1 => rfl
      | 2 => show q.val = 0; exact Nat.lt_one_iff.mp q.isLt
    rw [hs, hp, Window.toInt_small _ (by omega)]
    show min p.val (1024 - 1) = p.val
    omega
  | 1 => rw [start_other _ _ _ (by decide), Nat.zero_add]; rfl
  | 2 => rw [start_other _ _ _ (by decide), Nat.zero_add]; rfl
  | 3 => rw [start_other _ _ _ (by decide), Nat.zero_add]; rfl

/-- A key of a sequence: which page, which row of it. -/
theorem cache_at (x : FVec Ideal S1024x16x8x128 .f32) (bt : IVec S8x128 32) (hb : ∀ s b, bt (ix2 s b) = BitVec.ofNat 32 (s.val * 128 + b.val))
    (s : Fin 8) (j : Fin 2048) (h : Fin 8) (e : Fin 128) :
    cache x bt (ix4 s j h e) = x (ix4 ⟨s.val * 128 + j.val / 16, by omega⟩ ⟨j.val % 16, by omega⟩ h e) := by
  unfold cache
  refine (shapeCast_apply _ _ _ (ix5 s ⟨j.val / 16, by omega⟩ ⟨j.val % 16, by omega⟩ h e) ?_).trans ?_
  · rw [Shape.rowMajor_val_four, Shape.rowMajor_val_five]
    show (((s.val * 128 + j.val / 16) * 16 + j.val % 16) * 8 + h.val) * 128 + e.val = ((s.val * 2048 + j.val) * 8 + h.val) * 128 + e.val
    omega
  · exact gather_at x _ s _ _ h e _ (pages_at bt s _ (hb s _))

end Cert.ReferenceIdeal.Stages

end
-- ==== Proof.RefAttention.lean ====
/-
  One entry of the reference's result, under the precondition: attention over the keys of the query's window.
-/
module

public import proofs.«01_k».proof.Proof.RefScores
public import proofs.«01_k».proof.Proof.RefPages
public import proofs.«01_k».proof.Proof.Spec

@[expose] public section

set_option maxRecDepth 16384

noncomputable section

open Idealize.ShloMosaic Idealize.ShloMosaic.TcCoe Idealize.SL.Sem

namespace Cert.ReferenceIdeal.Stages

open Cert.ReferenceIdeal Cert.ReferenceIdeal.Gen Facts

/-- The window's bit says whether the key lies in the window. -/
theorem window_bit (r : Fin 256) (j : Fin 2048) : window (ix2 r j) = BitVec.ofBool (decide (Window.valid r j.val)) := by
  rw [window_at]
  exact Window.window_bits r j.val j.isLt _ _ (BitVec.ofNat_add 1792 r.val).symm rfl

/-- The masked score of a query and a key. -/
theorem masked_score (q : FVec Ideal S2048x32x128 .f32) (k : FVec Ideal S1024x16x8x128 .f32) (bt : IVec S8x128 32)
    (hb : ∀ (s : Fin 8) (b : Fin 128), bt (ix2 s b) = BitVec.ofNat 32 (s.val * 128 + b.val)) (hq : Spec.Finite (s := Spec.SQ) q) (hk : Spec.Finite (s := Spec.SC) k)
    (s g : Fin 8) (i : Fin 4) (h : Fin 32) (hh : h.val = g.val * 4 + i.val) (r : Fin 256) (j : Fin 2048) :
    masked window (scores (cache k bt) (queries q)) (ix5 s g i r j) = Softmax.mask (Window.valid r j.val) (Spec.score q k s r h j) := by
  have hg : Spec.keyHead h = g := Fin.ext (by show h.val / 4 = g.val; omega)
  have hi : (⟨g.val * 4 + i.val, by omega⟩ : Fin 32) = h := Fin.ext hh.symm
  rw [masked_at, window_bit, Window.select_window, scores_at]
  unfold Softmax.mask
  refine if_congr Iff.rfl ?_ rfl
  refine (congrArg (Ideal.div · _) (Finset.sum_congr rfl fun e _ => ?_)).trans (Spec.dot_key_query q k hq hk s r h j)
  rw [cache_at k bt hb, queries_at, hi, hg]
  rfl

/-- One entry of the mixed values is attention. -/
theorem mixed_at (q : FVec Ideal S2048x32x128 .f32) (k v : FVec Ideal S1024x16x8x128 .f32) (bt : IVec S8x128 32)
    (hb : ∀ (s : Fin 8) (b : Fin 128), bt (ix2 s b) = BitVec.ofNat 32 (s.val * 128 + b.val)) (hq : Spec.Finite (s := Spec.SQ) q) (hk : Spec.Finite (s := Spec.SC) k)
    (s : Fin 8) (r : Fin 256) (h : Fin 32) (d : Fin 128) :
    mix (cache v bt) (shares (powers (masked window (scores (cache k bt) (queries q))))) (ix3 (Spec.token s r) h d)
      = Spec.attention q k v s r h d := by
  have hh : h.val = (Spec.keyHead h).val * 4 + (⟨h.val % 4, Nat.mod_lt _ (by omega)⟩ : Fin 4).val := by
    show h.val = h.val / 4 * 4 + h.val % 4; omega
  have hi : (⟨(Spec.keyHead h).val * 4 + (⟨h.val % 4, Nat.mod_lt _ (by omega)⟩ : Fin 4).val, by omega⟩ : Fin 32) = h := Fin.ext hh.symm
  have hm := mix_at (cache v bt) (shares (powers (masked window (scores (cache k bt) (queries q))))) s (Spec.keyHead h) ⟨h.val % 4, Nat.mod_lt _ (by omega)⟩ r d
  rw [hi] at hm
  refine hm.trans ?_
  unfold Spec.attention Softmax.whole Softmax.top
  refine Finset.sum_congr rfl fun j _ => ?_
  simp only [shares_at, total_at, powers_at, largest_at, masked_score q k bt hb hq hk s (Spec.keyHead h) _ h hh r]
  rw [cache_at v bt hb]
  rfl

/-- One entry of the reference's result. -/
theorem result_at (m : (ℓ : Loc nD τ sig) → Buf (Elt Ideal) ℓ) (c : Dev nD)
    (q : FVec Ideal S2048x32x128 .f32) (k v : FVec Ideal S1024x16x8x128 .f32) (bt : IVec S8x128 32)
    (eq : m ((c.tc : Thread nD τ).loc main_arg0) = q) (ek : m ((c.tc : Thread nD τ).loc main_arg1) = k)
    (ev : m ((c.tc : Thread nD τ).loc main_arg2) = v) (eb : m ((c.tc : Thread nD τ).loc main_arg3) = bt)
    (hb : ∀ (s : Fin 8) (b : Fin 128), bt (ix2 s b) = BitVec.ofNat 32 (s.val * 128 + b.val)) (hq : Spec.Finite (s := Spec.SQ) q) (hk : Spec.Finite (s := Spec.SC) k)
    (s : Fin 8) (r : Fin 256) (h : Fin 32) (d : Fin 128) :
    (Value.res_out0 m c : FVec Ideal S2048x32x128 .f32) (ix3 (Spec.token s r) h d) = Spec.attention q k v s r h d := by
  rw [result_stages, eq, ek, ev, eb]
  exact mixed_at q k v bt hb hq hk s r h d

end Cert.ReferenceIdeal.Stages

end
-- ==== Proof.Pre.lean ====
/-
  What the precondition says: finite queries, finite keys, and a page table that lists the pages in order.
-/
module

public import proofs.«01_k».proof.Pre_paged
public import proofs.«01_k».proof.Proof.Spec
public import Idealize.ShloMosaic.Lib.ReduceAll

@[expose] public section

set_option maxRecDepth 16384

noncomputable section

open Idealize.ShloMosaic

namespace Cert.Pre_paged

open Facts

variable [Facts]

/-- A scalar has one index. -/
instance : Subsingleton S_.Idx := ⟨fun a b => funext fun i => i.elim0⟩

/-- The word of infinity. -/
theorem bits_top : Ideal.ofBits FTy.f32 0x7F800000#32 = ⊤ := by simp [Ideal.ofBits, Ideal.ieee]

/-- A magnitude below infinity belongs to a number. -/
theorem finite_of_lt (x y : EReal) (hy : y = ⊤) (h : Ideal.cmp .olt (max x (-x)) y = 1#1) : x ≠ ⊤ ∧ x ≠ ⊥ := by
  subst hy
  constructor <;> rintro rfl <;> simp [Ideal.cmp] at h

/-- The three parts of the precondition. -/
theorem parts (q : FVec Ideal S2048x32x128 .f32) (k v : FVec Ideal S1024x16x8x128 .f32) (bt : IVec S8x128 32) (l : IVec S8 32) (b : IVec S9 32)
    (h : fn q k v bt l b = fun _ => 1#1) :
    Spec.Finite (s := Spec.SQ) q ∧ Spec.Finite (s := Spec.SC) k ∧ ∀ (s : Fin 8) (p : Fin 128), bt (ix2 s p) = BitVec.ofNat 32 (s.val * 128 + p.val) := by
  have e := congrFun h (fun a => a.elim0)
  obtain ⟨e1, e3⟩ := IntOp.andi_eq_one.mp e
  obtain ⟨e1, e2⟩ := IntOp.andi_eq_one.mp e1
  refine ⟨fun i => ?_, fun i => ?_, fun s p => ?_⟩
  · exact finite_of_lt _ _ bits_top (Host.reduce_andi_all _ _ _ _ _ e1 i)
  · exact finite_of_lt _ _ bits_top (Host.reduce_andi_all _ _ _ _ _ e2 i)
  · refine (IntOp.cmpi_eq.mp (Host.reduce_andi_all _ _ _ _ _ e3 (ix2 s p))).trans ?_
    show BitVec.ofNat 32 s.val * BitVec.ofNat 32 128 + BitVec.ofNat 32 p.val = _
    rw [BitVec.ofNat_add, BitVec.ofNat_mul]

end Cert.Pre_paged

end
-- ==== Proof.Equation.lean ====
/-
  The kernel's result and the reference's are one array, under the precondition.
-/
module

public import proofs.«01_k».proof.Defs
public import proofs.«01_k».proof.Proof.Array
public import proofs.«01_k».proof.Proof.RefAttention
public import proofs.«01_k».proof.Proof.Pre
public import proofs.«01_k».proof.Proof.Gen.Pre_paged

@[expose] public section

set_option maxRecDepth 16384

noncomputable section

open Idealize.ShloMosaic Idealize.ShloMosaic.TcCoe Idealize.SL.Sem

namespace Cert.Equation

open Cert.KernelIdeal Cert.KernelIdeal.Gen

/-- An index of the result, by sequence, query, head, dimension. -/
theorem index_split (i : S2048x32x128.Idx) : ∃ (s : Fin 8) (r : Fin 256) (h : Fin 32) (d : Fin 128), i = ix3 (Spec.token s r) h d := by
  have h0 : (i 0).val < 2048 := (i 0).isLt
  refine ⟨⟨(i 0).val / 256, by omega⟩, ⟨(i 0).val % 256, Nat.mod_lt _ (by omega)⟩, i 1, i 2, funext fun a => ?_⟩
  fin_cases a
  · exact Fin.ext (show (i 0).val = (i 0).val / 256 * 256 + (i 0).val % 256 by omega)
  · rfl
  · rfl

/-- What the kernel leaves in its result. -/
abbrev kernelResult (m : (ℓ : Loc nD τ sig) → Buf (Elt Ideal) ℓ) (c : Dev nD) : Buf (Elt Ideal) ((c.tc : Thread nD τ).loc main_v0) :=
  Pipeline.afterTail₀ cfgs (dats m) 0 (V0 m) [hostOps1] c main_v0

/-- On arguments that agree and meet the precondition, the reference's result is the kernel's. -/
theorem results_agree (m : (ℓ : Loc nD τ sig) → Buf (Elt Ideal) ℓ)
    (m' : (ℓ : Loc Cert.ReferenceIdeal.nD Cert.ReferenceIdeal.τ Cert.ReferenceIdeal.sig) → Buf (Elt Ideal) ℓ) (c : Dev nD)
    (hp : Pre_KernelIdeal_paged m)
    (e0 : m' ((c.tc : Thread Cert.ReferenceIdeal.nD Cert.ReferenceIdeal.τ).loc Cert.ReferenceIdeal.main_arg0) = m ((c.tc : Thread nD τ).loc main_arg0))
    (e1 : m' ((c.tc : Thread Cert.ReferenceIdeal.nD Cert.ReferenceIdeal.τ).loc Cert.ReferenceIdeal.main_arg1) = m ((c.tc : Thread nD τ).loc main_arg1))
    (e2 : m' ((c.tc : Thread Cert.ReferenceIdeal.nD Cert.ReferenceIdeal.τ).loc Cert.ReferenceIdeal.main_arg2) = m ((c.tc : Thread nD τ).loc main_arg2))
    (e3 : m' ((c.tc : Thread Cert.ReferenceIdeal.nD Cert.ReferenceIdeal.τ).loc Cert.ReferenceIdeal.main_arg3) = m ((c.tc : Thread nD τ).loc main_arg3)) :
    (Cert.ReferenceIdeal.Value.res_out0 m' c : FVec Ideal S2048x32x128 .f32) = (kernelResult m c : FVec Ideal S2048x32x128 .f32) := by
  obtain ⟨hq, hk, hb⟩ := Pre_paged.parts _ _ _ _ _ _ (hp c)
  funext i
  obtain ⟨s, r, h, d, rfl⟩ := index_split i
  exact (Cert.ReferenceIdeal.Stages.result_at m' c _ _ _ _ e0 e1 e2 e3 hb hq hk s r h d).trans
    (Cert.KernelIdeal.Value.result_entry m c hq hk s r h d).symm

/-- The kernel's run: its result and its arguments at every final state. -/
theorem kernel_run (m : (ℓ : Loc nD τ sig) → Buf (Elt Ideal) ℓ) (g : Dev nD → PrngReg) :
    θ_run (Cert.KernelIdeal.defs (F := Ideal)) (onTc (τ := τ) (Cert.KernelIdeal.main (F := Ideal))) ⟨m, fun _ => 0, g⟩ (fun r => ∀ c : Dev nD,
      r.2.mem ((c.tc : Thread nD τ).loc main_v0) = kernelResult m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h.1 c).2 main_v0 (Pipeline.mem_restRefs_of main_v0 (by decide) (by decide)), h.2 c⟩)
    (θ_run_and (run_main m g) (unchanged m g))

/-- The value claim. -/
theorem algebraic : Cert.algebraic_KernelIdeal_ReferenceIdeal_pre_paged := by
  intro m g m' g' hp hagree
  refine ⟨kernelResult m, kernel_run m g, ?_⟩
  refine (θ_run Cert.ReferenceIdeal.defs _ _).mono (fun _ h c => ⟨(h c).1.trans ?_, (h c).2⟩) (Cert.ReferenceIdeal.Value.run (F := Ideal) m' g')
  obtain ⟨e0, e1, e2, e3, -, -⟩ := hagree c
  exact results_agree m m' c hp e0 e1 e2 e3

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Reference
public import proofs.«01_k».proof.Proof.Gen.Pre_paged
public import proofs.«01_k».proof.Proof.Equation
public import Idealize.ShloMosaic.Lib.Quiescent
public import Idealize.ShloMosaic.Adequacy
public import Idealize.ShloMosaic.Init
public import proofs.«01_k».proof.Proof.Gen.ReferenceIdeal.Run
public import proofs.«01_k».proof.Proof.Gen.Reference.Run

@[expose] public section

noncomputable section

namespace Cert.Proof

open Idealize.ShloMosaic Idealize.SL.Sem Cert.Kernel

/-- The ideal reference terminates, leaves its arguments and has no counter to leave. -/
theorem frame_reference_ideal : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- So does the reference over the words. -/
theorem frame_reference : Cert.quiescent_Reference := fun m g _ =>
  (θ_run Cert.Reference.defs _ _).mono (fun r h => ⟨fun c => (h c).2, sem_eq_zero_of_no_sems (by decide) r.2⟩)
    (Cert.Reference.Value.run (F := Bits) m g)

/-- The two named constants of the ideal kernel: the mask's minus infinity, and the scale of the queries. -/
theorem constants : Cert.preserves_Kernel_KernelIdeal :=
  ⟨IdealRules.named_const.statement Cert.KernelIdeal.κ "mask" .f32 0xF149F2CA#32 ⊥ rfl,
    IdealRules.named_const.statement Cert.KernelIdeal.κ "scale_log2e" .f32 0x3E0293EE#32 (((Real.sqrt 128)⁻¹ * (Real.log 2)⁻¹ : ℝ) : EReal) rfl⟩

/-- Everything that is claimed: the frames, the named constants, and the value claim. -/
theorem claim : Cert.Claim :=
  ⟨Cert.Kernel.Gen.facts, Cert.KernelIdeal.Gen.facts, Cert.ReferenceIdeal.Gen.facts, Cert.Reference.Gen.facts, Cert.Pre_paged.Gen.facts,
    fun m g _ => Cert.Kernel.Gen.frame m g,
    fun m g _ => Cert.KernelIdeal.Gen.frame m g,
    fun m g _ => Cert.KernelIdeal.Gen.frame m g,
    frame_reference_ideal,
    fun m g _ => frame_reference_ideal m g trivial,
    frame_reference,
    constants,
    trivial,
    Cert.Equation.algebraic⟩

end Cert.Proof

end
